-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "inv_bn" .f32 0x3F7FFFAC#32 (((Real.sqrt (2097173 / 2097152))⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v334) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x7x7 : Shape := ⟨4, ![16, 256, 7, 7]⟩
abbrev S16x256x31x31 : Shape := ⟨4, ![16, 256, 31, 31]⟩
abbrev S256x256x3x3 : Shape := ⟨4, ![256, 256, 3, 3]⟩
abbrev S256 : Shape := ⟨1, ![256]⟩
abbrev S256x256x1x1 : Shape := ⟨4, ![256, 256, 1, 1]⟩
abbrev S18x256x1x1 : Shape := ⟨4, ![18, 256, 1, 1]⟩
abbrev S18 : Shape := ⟨1, ![18]⟩
abbrev S16x256x49 : Shape := ⟨3, ![16, 256, 49]⟩
abbrev S16x256x961 : Shape := ⟨3, ![16, 256, 961]⟩
abbrev S3x3x256x256 : Shape := ⟨4, ![3, 3, 256, 256]⟩
abbrev S256x256 : Shape := ⟨2, ![256, 256]⟩
abbrev S18x256 : Shape := ⟨2, ![18, 256]⟩
abbrev S256x18 : Shape := ⟨2, ![256, 18]⟩
abbrev S1x256 : Shape := ⟨2, ![1, 256]⟩
abbrev S1x18 : Shape := ⟨2, ![1, 18]⟩
abbrev S16x1875x6 : Shape := ⟨3, ![16, 1875, 6]⟩
abbrev S1x256x49 : Shape := ⟨3, ![1, 256, 49]⟩
abbrev S1x256x961 : Shape := ⟨3, ![1, 256, 961]⟩
abbrev S1x1875x6 : Shape := ⟨3, ![1, 1875, 6]⟩
abbrev S3x1024x256 : Shape := ⟨3, ![3, 1024, 256]⟩
abbrev S5x928x256 : Shape := ⟨3, ![5, 928, 256]⟩
abbrev S256x49 : Shape := ⟨2, ![256, 49]⟩
abbrev S49x256 : Shape := ⟨2, ![49, 256]⟩
abbrev S256x961 : Shape := ⟨2, ![256, 961]⟩
abbrev S961x256 : Shape := ⟨2, ![961, 256]⟩
abbrev S7x256 : Shape := ⟨2, ![7, 256]⟩
abbrev S8x256 : Shape := ⟨2, ![8, 256]⟩
abbrev S16x256 : Shape := ⟨2, ![16, 256]⟩
abbrev S72x256 : Shape := ⟨2, ![72, 256]⟩
abbrev S31x256 : Shape := ⟨2, ![31, 256]⟩
abbrev S32x256 : Shape := ⟨2, ![32, 256]⟩
abbrev S1024x256 : Shape := ⟨2, ![1024, 256]⟩
abbrev S1x1024x256 : Shape := ⟨3, ![1, 1024, 256]⟩
abbrev S1023x256 : Shape := ⟨2, ![1023, 256]⟩
abbrev S1022x256 : Shape := ⟨2, ![1022, 256]⟩
abbrev S2x256 : Shape := ⟨2, ![2, 256]⟩
abbrev S56x256 : Shape := ⟨2, ![56, 256]⟩
abbrev S40x256 : Shape := ⟨2, ![40, 256]⟩
abbrev S1x1x256x256 : Shape := ⟨4, ![1, 1, 256, 256]⟩
abbrev S928x256 : Shape := ⟨2, ![928, 256]⟩
abbrev S1x928x256 : Shape := ⟨3, ![1, 928, 256]⟩
abbrev S927x256 : Shape := ⟨2, ![927, 256]⟩
abbrev S926x256 : Shape := ⟨2, ![926, 256]⟩
abbrev S925x256 : Shape := ⟨2, ![925, 256]⟩
abbrev S3x256 : Shape := ⟨2, ![3, 256]⟩
abbrev S924x256 : Shape := ⟨2, ![924, 256]⟩
abbrev S4x256 : Shape := ⟨2, ![4, 256]⟩
abbrev S800x256 : Shape := ⟨2, ![800, 256]⟩
abbrev S1x800x256 : Shape := ⟨3, ![1, 800, 256]⟩
abbrev S800x18 : Shape := ⟨2, ![800, 18]⟩
abbrev S800x6 : Shape := ⟨2, ![800, 6]⟩
abbrev S25x6 : Shape := ⟨2, ![25, 6]⟩
abbrev S1x25x6 : Shape := ⟨3, ![1, 25, 6]⟩

abbrev nBuf : Space → Nat
  | .hbm => 33
  | .vmem => 19
  | .smem => 0
  | _ => 0

abbrev bufTy : (tb : Table) → Fin (tcTables nBuf tb) → BufTy
  | .hbm, ⟨0, _⟩ => ⟨S16x256x7x7, .f32⟩
  | .hbm, ⟨1, _⟩ => ⟨S16x256x31x31, .f32⟩
  | .hbm, ⟨2, _⟩ => ⟨S256x256x3x3, .f32⟩
  | .hbm, ⟨3, _⟩ => ⟨S256, .f32⟩
  | .hbm, ⟨4, _⟩ => ⟨S256, .f32⟩
  | .hbm, ⟨5, _⟩ => ⟨S256x256x3x3, .f32⟩
  | .hbm, ⟨6, _⟩ => ⟨S256, .f32⟩
  | .hbm, ⟨7, _⟩ => ⟨S256, .f32⟩
  | .hbm, ⟨8, _⟩ => ⟨S256x256x1x1, .f32⟩
  | .hbm, ⟨9, _⟩ => ⟨S256, .f32⟩
  | .hbm, ⟨10, _⟩ => ⟨S256, .f32⟩
  | .hbm, ⟨11, _⟩ => ⟨S18x256x1x1, .f32⟩
  | .hbm, ⟨12, _⟩ => ⟨S18, .f32⟩
  | .hbm, ⟨13, _⟩ => ⟨S16x256x49, .f32⟩
  | .hbm, ⟨14, _⟩ => ⟨S16x256x961, .f32⟩
  | .hbm, ⟨15, _⟩ => ⟨S3x3x256x256, .f32⟩
  | .hbm, ⟨16, _⟩ => ⟨S3x3x256x256, .bf16⟩
  | .hbm, ⟨17, _⟩ => ⟨S3x3x256x256, .f32⟩
  | .hbm, ⟨18, _⟩ => ⟨S3x3x256x256, .bf16⟩
  | .hbm, ⟨19, _⟩ => ⟨S256x256, .f32⟩
  | .hbm, ⟨20, _⟩ => ⟨S256x256, .f32⟩
  | .hbm, ⟨21, _⟩ => ⟨S256x256, .bf16⟩
  | .hbm, ⟨22, _⟩ => ⟨S18x256, .f32⟩
  | .hbm, ⟨23, _⟩ => ⟨S256x18, .f32⟩
  | .hbm, ⟨24, _⟩ => ⟨S256x18, .bf16⟩
  | .hbm, ⟨25, _⟩ => ⟨S1x256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x18, .f32⟩
  | .hbm, ⟨32, _⟩ => ⟨S16x1875x6, .f32⟩
  | .local _ .vmem, ⟨0, _⟩ => ⟨S1x256x49, .f32⟩
  | .local _ .vmem, ⟨1, _⟩ => ⟨S1x256x49, .f32⟩
  | .local _ .vmem, ⟨2, _⟩ => ⟨S1x256x961, .f32⟩
  | .local _ .vmem, ⟨3, _⟩ => ⟨S1x256x961, .f32⟩
  | .local _ .vmem, ⟨4, _⟩ => ⟨S3x3x256x256, .bf16⟩
  | .local _ .vmem, ⟨5, _⟩ => ⟨S3x3x256x256, .bf16⟩
  | .local _ .vmem, ⟨6, _⟩ => ⟨S256x256, .bf16⟩
  | .local _ .vmem, ⟨7, _⟩ => ⟨S256x18, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x18, .f32⟩
  | .local _ .vmem, ⟨15, _⟩ => ⟨S1x1875x6, .f32⟩
  | .local _ .vmem, ⟨16, _⟩ => ⟨S1x1875x6, .f32⟩
  | .local _ .vmem, ⟨17, _⟩ => ⟨S3x1024x256, .bf16⟩
  | .local _ .vmem, ⟨18, _⟩ => ⟨S5x928x256, .f32⟩
  | _, _ => ⟨S16x256x7x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x49 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x961 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x3x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x3x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x18 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x18 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x1875x6 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "inv_bn" => some (((Real.sqrt (2097173 / 2097152))⁻¹ : ℝ) : EReal)
  | _ => none
-- ==== ReferenceIdeal.lean ====
abbrev S16x256x7x7 : Shape := ⟨4, ![16, 256, 7, 7]⟩
abbrev S16x256x31x31 : Shape := ⟨4, ![16, 256, 31, 31]⟩
abbrev S256x256x3x3 : Shape := ⟨4, ![256, 256, 3, 3]⟩
abbrev S256 : Shape := ⟨1, ![256]⟩
abbrev S256x256x1x1 : Shape := ⟨4, ![256, 256, 1, 1]⟩
abbrev S18x256x1x1 : Shape := ⟨4, ![18, 256, 1, 1]⟩
abbrev S18 : Shape := ⟨1, ![18]⟩
abbrev S16x256x5x5 : Shape := ⟨4, ![16, 256, 5, 5]⟩
abbrev S256x256 : Shape := ⟨2, ![256, 256]⟩
abbrev S256x16x5x5 : Shape := ⟨4, ![256, 16, 5, 5]⟩
abbrev S_ : Shape := ⟨0, ![]⟩
abbrev S1x256x1x1 : Shape := ⟨4, ![1, 256, 1, 1]⟩
abbrev S16x256x29x29 : Shape := ⟨4, ![16, 256, 29, 29]⟩
abbrev S256x16x29x29 : Shape := ⟨4, ![256, 16, 29, 29]⟩
abbrev S16x256x25x25 : Shape := ⟨4, ![16, 256, 25, 25]⟩
abbrev S16x256x1x1 : Shape := ⟨4, ![16, 256, 1, 1]⟩
abbrev S256x16x25x25 : Shape := ⟨4, ![256, 16, 25, 25]⟩
abbrev S18x256 : Shape := ⟨2, ![18, 256]⟩
abbrev S18x16x25x25 : Shape := ⟨4, ![18, 16, 25, 25]⟩
abbrev S16x18x25x25 : Shape := ⟨4, ![16, 18, 25, 25]⟩
abbrev S1x18x1x1 : Shape := ⟨4, ![1, 18, 1, 1]⟩
abbrev S16x3x6x25x25 : Shape := ⟨5, ![16, 3, 6, 25, 25]⟩
abbrev S16x3x25x25x6 : Shape := ⟨5, ![16, 3, 25, 25, 6]⟩
abbrev S16x3x25x25x2 : Shape := ⟨5, ![16, 3, 25, 25, 2]⟩
abbrev S25 : Shape := ⟨1, ![25]⟩
abbrev S1x1x1x25 : Shape := ⟨4, ![1, 1, 1, 25]⟩
abbrev S1x1x25x1 : Shape := ⟨4, ![1, 1, 25, 1]⟩
abbrev S1 : Shape := ⟨1, ![1]⟩
abbrev S3 : Shape := ⟨1, ![3]⟩
abbrev S1x3x1x1 : Shape := ⟨4, ![1, 3, 1, 1]⟩
abbrev S16x3x25x25x1 : Shape := ⟨5, ![16, 3, 25, 25, 1]⟩
abbrev S16x3x25x25 : Shape := ⟨4, ![16, 3, 25, 25]⟩
abbrev S16x3x25x25x4 : Shape := ⟨5, ![16, 3, 25, 25, 4]⟩
abbrev S16x1875x6 : Shape := ⟨3, ![16, 1875, 6]⟩

abbrev nBuf : Space → Nat
  | .hbm => 371
  | .vmem => 0
  | .smem => 0
  | _ => 0

abbrev hbmTy0_0 (i : Nat) : BufTy := match i % 128 with
  | 0 => ⟨S16x256x7x7, .f32⟩
  | 1 => ⟨S16x256x31x31, .f32⟩
  | 2 => ⟨S256x256x3x3, .f32⟩
  | 3 => ⟨S256, .f32⟩
  | 4 => ⟨S256, .f32⟩
  | 5 => ⟨S256x256x3x3, .f32⟩
  | 6 => ⟨S256, .f32⟩
  | 7 => ⟨S256, .f32⟩
  | 8 => ⟨S256x256x1x1, .f32⟩
  | 9 => ⟨S256, .f32⟩
  | 10 => ⟨S256, .f32⟩
  | 11 => ⟨S18x256x1x1, .f32⟩
  | 12 => ⟨S18, .f32⟩
  | 13 => ⟨S16x256x5x5, .f32⟩
  | 14 => ⟨S256x256x1x1, .f32⟩
  | 15 => ⟨S256x256, .f32⟩
  | 16 => ⟨S256x16x5x5, .f32⟩
  | 17 => ⟨S16x256x5x5, .f32⟩
  | 18 => ⟨S16x256x5x5, .f32⟩
  | 19 => ⟨S256x256x1x1, .f32⟩
  | 20 => ⟨S256x256, .f32⟩
  | 21 => ⟨S256x16x5x5, .f32⟩
  | 22 => ⟨S16x256x5x5, .f32⟩
  | 23 => ⟨S16x256x5x5, .f32⟩
  | 24 => ⟨S16x256x5x5, .f32⟩
  | 25 => ⟨S256x256x1x1, .f32⟩
  | 26 => ⟨S256x256, .f32⟩
  | 27 => ⟨S256x16x5x5, .f32⟩
  | 28 => ⟨S16x256x5x5, .f32⟩
  | 29 => ⟨S16x256x5x5, .f32⟩
  | 30 => ⟨S16x256x5x5, .f32⟩
  | 31 => ⟨S256x256x1x1, .f32⟩
  | 32 => ⟨S256x256, .f32⟩
  | 33 => ⟨S256x16x5x5, .f32⟩
  | 34 => ⟨S16x256x5x5, .f32⟩
  | 35 => ⟨S16x256x5x5, .f32⟩
  | 36 => ⟨S16x256x5x5, .f32⟩
  | 37 => ⟨S256x256x1x1, .f32⟩
  | 38 => ⟨S256x256, .f32⟩
  | 39 => ⟨S256x16x5x5, .f32⟩
  | 40 => ⟨S16x256x5x5, .f32⟩
  | 41 => ⟨S16x256x5x5, .f32⟩
  | 42 => ⟨S16x256x5x5, .f32⟩
  | 43 => ⟨S256x256x1x1, .f32⟩
  | 44 => ⟨S256x256, .f32⟩
  | 45 => ⟨S256x16x5x5, .f32⟩
  | 46 => ⟨S16x256x5x5, .f32⟩
  | 47 => ⟨S16x256x5x5, .f32⟩
  | 48 => ⟨S16x256x5x5, .f32⟩
  | 49 => ⟨S256x256x1x1, .f32⟩
  | 50 => ⟨S256x256, .f32⟩
  | 51 => ⟨S256x16x5x5, .f32⟩
  | 52 => ⟨S16x256x5x5, .f32⟩
  | 53 => ⟨S16x256x5x5, .f32⟩
  | 54 => ⟨S16x256x5x5, .f32⟩
  | 55 => ⟨S256x256x1x1, .f32⟩
  | 56 => ⟨S256x256, .f32⟩
  | 57 => ⟨S256x16x5x5, .f32⟩
  | 58 => ⟨S16x256x5x5, .f32⟩
  | 59 => ⟨S16x256x5x5, .f32⟩
  | 60 => ⟨S16x256x5x5, .f32⟩
  | 61 => ⟨S256x256x1x1, .f32⟩
  | 62 => ⟨S256x256, .f32⟩
  | 63 => ⟨S256x16x5x5, .f32⟩
  | 64 => ⟨S16x256x5x5, .f32⟩
  | 65 => ⟨S16x256x5x5, .f32⟩
  | 66 => ⟨S_, .f32⟩
  | 67 => ⟨S_, .f32⟩
  | 68 => ⟨S_, .f32⟩
  | 69 => ⟨S16x256x5x5, .f32⟩
  | 70 => ⟨S16x256x5x5, .f32⟩
  | 71 => ⟨S1x256x1x1, .f32⟩
  | 72 => ⟨S16x256x5x5, .f32⟩
  | 73 => ⟨S16x256x5x5, .f32⟩
  | 74 => ⟨S1x256x1x1, .f32⟩
  | 75 => ⟨S16x256x5x5, .f32⟩
  | 76 => ⟨S16x256x5x5, .f32⟩
  | 77 => ⟨S_, .f32⟩
  | 78 => ⟨S16x256x5x5, .f32⟩
  | 79 => ⟨S16x256x5x5, .f32⟩
  | 80 => ⟨S16x256x29x29, .f32⟩
  | 81 => ⟨S256x256x1x1, .f32⟩
  | 82 => ⟨S256x256, .f32⟩
  | 83 => ⟨S256x16x29x29, .f32⟩
  | 84 => ⟨S16x256x29x29, .f32⟩
  | 85 => ⟨S16x256x29x29, .f32⟩
  | 86 => ⟨S256x256x1x1, .f32⟩
  | 87 => ⟨S256x256, .f32⟩
  | 88 => ⟨S256x16x29x29, .f32⟩
  | 89 => ⟨S16x256x29x29, .f32⟩
  | 90 => ⟨S16x256x29x29, .f32⟩
  | 91 => ⟨S16x256x29x29, .f32⟩
  | 92 => ⟨S256x256x1x1, .f32⟩
  | 93 => ⟨S256x256, .f32⟩
  | 94 => ⟨S256x16x29x29, .f32⟩
  | 95 => ⟨S16x256x29x29, .f32⟩
  | 96 => ⟨S16x256x29x29, .f32⟩
  | 97 => ⟨S16x256x29x29, .f32⟩
  | 98 => ⟨S256x256x1x1, .f32⟩
  | 99 => ⟨S256x256, .f32⟩
  | 100 => ⟨S256x16x29x29, .f32⟩
  | 101 => ⟨S16x256x29x29, .f32⟩
  | 102 => ⟨S16x256x29x29, .f32⟩
  | 103 => ⟨S16x256x29x29, .f32⟩
  | 104 => ⟨S256x256x1x1, .f32⟩
  | 105 => ⟨S256x256, .f32⟩
  | 106 => ⟨S256x16x29x29, .f32⟩
  | 107 => ⟨S16x256x29x29, .f32⟩
  | 108 => ⟨S16x256x29x29, .f32⟩
  | 109 => ⟨S16x256x29x29, .f32⟩
  | 110 => ⟨S256x256x1x1, .f32⟩
  | 111 => ⟨S256x256, .f32⟩
  | 112 => ⟨S256x16x29x29, .f32⟩
  | 113 => ⟨S16x256x29x29, .f32⟩
  | 114 => ⟨S16x256x29x29, .f32⟩
  | 115 => ⟨S16x256x29x29, .f32⟩
  | 116 => ⟨S256x256x1x1, .f32⟩
  | 117 => ⟨S256x256, .f32⟩
  | 118 => ⟨S256x16x29x29, .f32⟩
  | 119 => ⟨S16x256x29x29, .f32⟩
  | 120 => ⟨S16x256x29x29, .f32⟩
  | 121 => ⟨S16x256x29x29, .f32⟩
  | 122 => ⟨S256x256x1x1, .f32⟩
  | 123 => ⟨S256x256, .f32⟩
  | 124 => ⟨S256x16x29x29, .f32⟩
  | 125 => ⟨S16x256x29x29, .f32⟩
  | 126 => ⟨S16x256x29x29, .f32⟩
  | 127 => ⟨S16x256x29x29, .f32⟩
  | _ => ⟨S16x256x7x7, .f32⟩

abbrev hbmTy0_1 (i : Nat) : BufTy := match i % 128 with
  | 0 => ⟨S256x256x1x1, .f32⟩
  | 1 => ⟨S256x256, .f32⟩
  | 2 => ⟨S256x16x29x29, .f32⟩
  | 3 => ⟨S16x256x29x29, .f32⟩
  | 4 => ⟨S16x256x29x29, .f32⟩
  | 5 => ⟨S_, .f32⟩
  | 6 => ⟨S_, .f32⟩
  | 7 => ⟨S_, .f32⟩
  | 8 => ⟨S16x256x29x29, .f32⟩
  | 9 => ⟨S16x256x29x29, .f32⟩
  | 10 => ⟨S1x256x1x1, .f32⟩
  | 11 => ⟨S16x256x29x29, .f32⟩
  | 12 => ⟨S16x256x29x29, .f32⟩
  | 13 => ⟨S1x256x1x1, .f32⟩
  | 14 => ⟨S16x256x29x29, .f32⟩
  | 15 => ⟨S16x256x29x29, .f32⟩
  | 16 => ⟨S_, .f32⟩
  | 17 => ⟨S16x256x29x29, .f32⟩
  | 18 => ⟨S16x256x29x29, .f32⟩
  | 19 => ⟨S16x256x25x25, .f32⟩
  | 20 => ⟨S16x256x1x1, .f32⟩
  | 21 => ⟨S16x256x25x25, .f32⟩
  | 22 => ⟨S16x256x25x25, .f32⟩
  | 23 => ⟨S16x256x25x25, .f32⟩
  | 24 => ⟨S16x256x1x1, .f32⟩
  | 25 => ⟨S16x256x25x25, .f32⟩
  | 26 => ⟨S16x256x25x25, .f32⟩
  | 27 => ⟨S16x256x25x25, .f32⟩
  | 28 => ⟨S16x256x25x25, .f32⟩
  | 29 => ⟨S16x256x1x1, .f32⟩
  | 30 => ⟨S16x256x25x25, .f32⟩
  | 31 => ⟨S16x256x25x25, .f32⟩
  | 32 => ⟨S16x256x25x25, .f32⟩
  | 33 => ⟨S16x256x25x25, .f32⟩
  | 34 => ⟨S16x256x1x1, .f32⟩
  | 35 => ⟨S16x256x25x25, .f32⟩
  | 36 => ⟨S16x256x25x25, .f32⟩
  | 37 => ⟨S16x256x25x25, .f32⟩
  | 38 => ⟨S16x256x25x25, .f32⟩
  | 39 => ⟨S16x256x1x1, .f32⟩
  | 40 => ⟨S16x256x25x25, .f32⟩
  | 41 => ⟨S16x256x25x25, .f32⟩
  | 42 => ⟨S16x256x25x25, .f32⟩
  | 43 => ⟨S16x256x25x25, .f32⟩
  | 44 => ⟨S16x256x1x1, .f32⟩
  | 45 => ⟨S16x256x25x25, .f32⟩
  | 46 => ⟨S16x256x25x25, .f32⟩
  | 47 => ⟨S16x256x25x25, .f32⟩
  | 48 => ⟨S16x256x25x25, .f32⟩
  | 49 => ⟨S16x256x1x1, .f32⟩
  | 50 => ⟨S16x256x25x25, .f32⟩
  | 51 => ⟨S16x256x25x25, .f32⟩
  | 52 => ⟨S16x256x25x25, .f32⟩
  | 53 => ⟨S16x256x25x25, .f32⟩
  | 54 => ⟨S16x256x1x1, .f32⟩
  | 55 => ⟨S16x256x25x25, .f32⟩
  | 56 => ⟨S16x256x25x25, .f32⟩
  | 57 => ⟨S16x256x25x25, .f32⟩
  | 58 => ⟨S16x256x25x25, .f32⟩
  | 59 => ⟨S16x256x1x1, .f32⟩
  | 60 => ⟨S16x256x25x25, .f32⟩
  | 61 => ⟨S16x256x25x25, .f32⟩
  | 62 => ⟨S16x256x25x25, .f32⟩
  | 63 => ⟨S16x256x25x25, .f32⟩
  | 64 => ⟨S16x256x1x1, .f32⟩
  | 65 => ⟨S16x256x25x25, .f32⟩
  | 66 => ⟨S16x256x25x25, .f32⟩
  | 67 => ⟨S16x256x25x25, .f32⟩
  | 68 => ⟨S16x256x25x25, .f32⟩
  | 69 => ⟨S16x256x1x1, .f32⟩
  | 70 => ⟨S16x256x25x25, .f32⟩
  | 71 => ⟨S16x256x25x25, .f32⟩
  | 72 => ⟨S16x256x25x25, .f32⟩
  | 73 => ⟨S16x256x25x25, .f32⟩
  | 74 => ⟨S16x256x1x1, .f32⟩
  | 75 => ⟨S16x256x25x25, .f32⟩
  | 76 => ⟨S16x256x25x25, .f32⟩
  | 77 => ⟨S16x256x25x25, .f32⟩
  | 78 => ⟨S16x256x25x25, .f32⟩
  | 79 => ⟨S16x256x1x1, .f32⟩
  | 80 => ⟨S16x256x25x25, .f32⟩
  | 81 => ⟨S16x256x25x25, .f32⟩
  | 82 => ⟨S16x256x25x25, .f32⟩
  | 83 => ⟨S16x256x25x25, .f32⟩
  | 84 => ⟨S16x256x1x1, .f32⟩
  | 85 => ⟨S16x256x25x25, .f32⟩
  | 86 => ⟨S16x256x25x25, .f32⟩
  | 87 => ⟨S16x256x25x25, .f32⟩
  | 88 => ⟨S16x256x25x25, .f32⟩
  | 89 => ⟨S16x256x1x1, .f32⟩
  | 90 => ⟨S16x256x25x25, .f32⟩
  | 91 => ⟨S16x256x25x25, .f32⟩
  | 92 => ⟨S16x256x25x25, .f32⟩
  | 93 => ⟨S16x256x25x25, .f32⟩
  | 94 => ⟨S16x256x1x1, .f32⟩
  | 95 => ⟨S16x256x25x25, .f32⟩
  | 96 => ⟨S16x256x25x25, .f32⟩
  | 97 => ⟨S16x256x25x25, .f32⟩
  | 98 => ⟨S16x256x25x25, .f32⟩
  | 99 => ⟨S16x256x1x1, .f32⟩
  | 100 => ⟨S16x256x25x25, .f32⟩
  | 101 => ⟨S16x256x25x25, .f32⟩
  | 102 => ⟨S16x256x25x25, .f32⟩
  | 103 => ⟨S16x256x25x25, .f32⟩
  | 104 => ⟨S16x256x1x1, .f32⟩
  | 105 => ⟨S16x256x25x25, .f32⟩
  | 106 => ⟨S16x256x25x25, .f32⟩
  | 107 => ⟨S16x256x25x25, .f32⟩
  | 108 => ⟨S16x256x25x25, .f32⟩
  | 109 => ⟨S16x256x1x1, .f32⟩
  | 110 => ⟨S16x256x25x25, .f32⟩
  | 111 => ⟨S16x256x25x25, .f32⟩
  | 112 => ⟨S16x256x25x25, .f32⟩
  | 113 => ⟨S16x256x25x25, .f32⟩
  | 114 => ⟨S16x256x1x1, .f32⟩
  | 115 => ⟨S16x256x25x25, .f32⟩
  | 116 => ⟨S16x256x25x25, .f32⟩
  | 117 => ⟨S16x256x25x25, .f32⟩
  | 118 => ⟨S16x256x25x25, .f32⟩
  | 119 => ⟨S16x256x1x1, .f32⟩
  | 120 => ⟨S16x256x25x25, .f32⟩
  | 121 => ⟨S16x256x25x25, .f32⟩
  | 122 => ⟨S16x256x25x25, .f32⟩
  | 123 => ⟨S16x256x25x25, .f32⟩
  | 124 => ⟨S16x256x1x1, .f32⟩
  | 125 => ⟨S16x256x25x25, .f32⟩
  | 126 => ⟨S16x256x25x25, .f32⟩
  | 127 => ⟨S16x256x25x25, .f32⟩
  | _ => ⟨S16x256x7x7, .f32⟩

abbrev hbmTy0_2 (i : Nat) : BufTy := match i % 128 with
  | 0 => ⟨S16x256x25x25, .f32⟩
  | 1 => ⟨S16x256x1x1, .f32⟩
  | 2 => ⟨S16x256x25x25, .f32⟩
  | 3 => ⟨S16x256x25x25, .f32⟩
  | 4 => ⟨S16x256x25x25, .f32⟩
  | 5 => ⟨S16x256x25x25, .f32⟩
  | 6 => ⟨S16x256x1x1, .f32⟩
  | 7 => ⟨S16x256x25x25, .f32⟩
  | 8 => ⟨S16x256x25x25, .f32⟩
  | 9 => ⟨S16x256x25x25, .f32⟩
  | 10 => ⟨S16x256x25x25, .f32⟩
  | 11 => ⟨S16x256x1x1, .f32⟩
  | 12 => ⟨S16x256x25x25, .f32⟩
  | 13 => ⟨S16x256x25x25, .f32⟩
  | 14 => ⟨S16x256x25x25, .f32⟩
  | 15 => ⟨S256x256, .f32⟩
  | 16 => ⟨S256x16x25x25, .f32⟩
  | 17 => ⟨S16x256x25x25, .f32⟩
  | 18 => ⟨S_, .f32⟩
  | 19 => ⟨S_, .f32⟩
  | 20 => ⟨S_, .f32⟩
  | 21 => ⟨S16x256x25x25, .f32⟩
  | 22 => ⟨S16x256x25x25, .f32⟩
  | 23 => ⟨S1x256x1x1, .f32⟩
  | 24 => ⟨S16x256x25x25, .f32⟩
  | 25 => ⟨S16x256x25x25, .f32⟩
  | 26 => ⟨S1x256x1x1, .f32⟩
  | 27 => ⟨S16x256x25x25, .f32⟩
  | 28 => ⟨S16x256x25x25, .f32⟩
  | 29 => ⟨S_, .f32⟩
  | 30 => ⟨S16x256x25x25, .f32⟩
  | 31 => ⟨S16x256x25x25, .f32⟩
  | 32 => ⟨S18x256, .f32⟩
  | 33 => ⟨S18x16x25x25, .f32⟩
  | 34 => ⟨S16x18x25x25, .f32⟩
  | 35 => ⟨S1x18x1x1, .f32⟩
  | 36 => ⟨S16x18x25x25, .f32⟩
  | 37 => ⟨S16x18x25x25, .f32⟩
  | 38 => ⟨S16x3x6x25x25, .f32⟩
  | 39 => ⟨S16x3x25x25x6, .f32⟩
  | 40 => ⟨S16x3x25x25x2, .f32⟩
  | 41 => ⟨S16x3x25x25x2, .f32⟩
  | 42 => ⟨S16x3x25x25x2, .f32⟩
  | 43 => ⟨S_, .f32⟩
  | 44 => ⟨S16x3x25x25x2, .f32⟩
  | 45 => ⟨S16x3x25x25x2, .f32⟩
  | 46 => ⟨S_, .f32⟩
  | 47 => ⟨S16x3x25x25x2, .f32⟩
  | 48 => ⟨S16x3x25x25x2, .f32⟩
  | 49 => ⟨S16x3x25x25x2, .f32⟩
  | 50 => ⟨S16x3x25x25x2, .f32⟩
  | 51 => ⟨S16x3x25x25x2, .f32⟩
  | 52 => ⟨S_, .f32⟩
  | 53 => ⟨S16x3x25x25x2, .f32⟩
  | 54 => ⟨S16x3x25x25x2, .f32⟩
  | 55 => ⟨S_, .f32⟩
  | 56 => ⟨S16x3x25x25x2, .f32⟩
  | 57 => ⟨S16x3x25x25x2, .f32⟩
  | 58 => ⟨S25, .f32⟩
  | 59 => ⟨S1x1x1x25, .f32⟩
  | 60 => ⟨S25, .f32⟩
  | 61 => ⟨S1x1x25x1, .f32⟩
  | 62 => ⟨S_, .f32⟩
  | 63 => ⟨S_, .f32⟩
  | 64 => ⟨S_, .f32⟩
  | 65 => ⟨S1, .f32⟩
  | 66 => ⟨S1, .f32⟩
  | 67 => ⟨S1, .f32⟩
  | 68 => ⟨S3, .f32⟩
  | 69 => ⟨S1x3x1x1, .f32⟩
  | 70 => ⟨S_, .f32⟩
  | 71 => ⟨S_, .f32⟩
  | 72 => ⟨S_, .f32⟩
  | 73 => ⟨S1, .f32⟩
  | 74 => ⟨S1, .f32⟩
  | 75 => ⟨S1, .f32⟩
  | 76 => ⟨S3, .f32⟩
  | 77 => ⟨S1x3x1x1, .f32⟩
  | 78 => ⟨S16x3x25x25x1, .f32⟩
  | 79 => ⟨S16x3x25x25, .f32⟩
  | 80 => ⟨S16x3x25x25, .f32⟩
  | 81 => ⟨S16x3x25x25, .f32⟩
  | 82 => ⟨S_, .f32⟩
  | 83 => ⟨S16x3x25x25, .f32⟩
  | 84 => ⟨S16x3x25x25, .f32⟩
  | 85 => ⟨S16x3x25x25x1, .f32⟩
  | 86 => ⟨S16x3x25x25, .f32⟩
  | 87 => ⟨S16x3x25x25, .f32⟩
  | 88 => ⟨S16x3x25x25, .f32⟩
  | 89 => ⟨S_, .f32⟩
  | 90 => ⟨S16x3x25x25, .f32⟩
  | 91 => ⟨S16x3x25x25, .f32⟩
  | 92 => ⟨S16x3x25x25x1, .f32⟩
  | 93 => ⟨S16x3x25x25, .f32⟩
  | 94 => ⟨S16x3x25x25, .f32⟩
  | 95 => ⟨S16x3x25x25, .f32⟩
  | 96 => ⟨S16x3x25x25, .f32⟩
  | 97 => ⟨S_, .f32⟩
  | 98 => ⟨S16x3x25x25, .f32⟩
  | 99 => ⟨S16x3x25x25, .f32⟩
  | 100 => ⟨S16x3x25x25x1, .f32⟩
  | 101 => ⟨S16x3x25x25, .f32⟩
  | 102 => ⟨S16x3x25x25, .f32⟩
  | 103 => ⟨S16x3x25x25, .f32⟩
  | 104 => ⟨S16x3x25x25, .f32⟩
  | 105 => ⟨S_, .f32⟩
  | 106 => ⟨S16x3x25x25, .f32⟩
  | 107 => ⟨S16x3x25x25, .f32⟩
  | 108 => ⟨S16x3x25x25x1, .f32⟩
  | 109 => ⟨S16x3x25x25x1, .f32⟩
  | 110 => ⟨S16x3x25x25x1, .f32⟩
  | 111 => ⟨S16x3x25x25x1, .f32⟩
  | 112 => ⟨S16x3x25x25x4, .f32⟩
  | 113 => ⟨S16x3x25x25x6, .f32⟩
  | 114 => ⟨S16x1875x6, .f32⟩
  | _ => ⟨S16x256x7x7, .f32⟩

abbrev hbmTy (i : Nat) : BufTy := match i / 128 with
  | 0 => hbmTy0_0 i
  | 1 => hbmTy0_1 i
  | 2 => hbmTy0_2 i
  | _ => ⟨S16x256x7x7, .f32⟩

abbrev bufTy : (tb : Table) → Fin (tcTables nBuf tb) → BufTy
  | .hbm, ⟨i, _⟩ => hbmTy i
  | _, _ => ⟨S16x256x7x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call0_cst : Ref sig .tc := ⟨.hbm, 77, rfl⟩
abbrev main_call0_v0 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_0 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_call1_cst : Ref sig .tc := ⟨.hbm, 144, rfl⟩
abbrev main_call1_v0 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_v163 : Ref sig .tc := ⟨.hbm, 182, rfl⟩
abbrev main_v164 : Ref sig .tc := ⟨.hbm, 183, rfl⟩
abbrev main_v165 : Ref sig .tc := ⟨.hbm, 184, rfl⟩
abbrev main_v166 : Ref sig .tc := ⟨.hbm, 185, rfl⟩
abbrev main_v167 : Ref sig .tc := ⟨.hbm, 186, rfl⟩
abbrev main_v168 : Ref sig .tc := ⟨.hbm, 187, rfl⟩
abbrev main_v169 : Ref sig .tc := ⟨.hbm, 188, rfl⟩
abbrev main_v170 : Ref sig .tc := ⟨.hbm, 189, rfl⟩
abbrev main_v171 : Ref sig .tc := ⟨.hbm, 190, rfl⟩
abbrev main_v172 : Ref sig .tc := ⟨.hbm, 191, rfl⟩
abbrev main_v173 : Ref sig .tc := ⟨.hbm, 192, rfl⟩
abbrev main_v174 : Ref sig .tc := ⟨.hbm, 193, rfl⟩
abbrev main_v175 : Ref sig .tc := ⟨.hbm, 194, rfl⟩
abbrev main_v176 : Ref sig .tc := ⟨.hbm, 195, rfl⟩
abbrev main_v177 : Ref sig .tc := ⟨.hbm, 196, rfl⟩
abbrev main_v178 : Ref sig .tc := ⟨.hbm, 197, rfl⟩
abbrev main_v179 : Ref sig .tc := ⟨.hbm, 198, rfl⟩
abbrev main_v180 : Ref sig .tc := ⟨.hbm, 199, rfl⟩
abbrev main_v181 : Ref sig .tc := ⟨.hbm, 200, rfl⟩
abbrev main_v182 : Ref sig .tc := ⟨.hbm, 201, rfl⟩
abbrev main_v183 : Ref sig .tc := ⟨.hbm, 202, rfl⟩
abbrev main_v184 : Ref sig .tc := ⟨.hbm, 203, rfl⟩
abbrev main_v185 : Ref sig .tc := ⟨.hbm, 204, rfl⟩
abbrev main_v186 : Ref sig .tc := ⟨.hbm, 205, rfl⟩
abbrev main_v187 : Ref sig .tc := ⟨.hbm, 206, rfl⟩
abbrev main_v188 : Ref sig .tc := ⟨.hbm, 207, rfl⟩
abbrev main_v189 : Ref sig .tc := ⟨.hbm, 208, rfl⟩
abbrev main_v190 : Ref sig .tc := ⟨.hbm, 209, rfl⟩
abbrev main_v191 : Ref sig .tc := ⟨.hbm, 210, rfl⟩
abbrev main_v192 : Ref sig .tc := ⟨.hbm, 211, rfl⟩
abbrev main_v193 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_v213 : Ref sig .tc := ⟨.hbm, 232, rfl⟩
abbrev main_v214 : Ref sig .tc := ⟨.hbm, 233, rfl⟩
abbrev main_v215 : Ref sig .tc := ⟨.hbm, 234, rfl⟩
abbrev main_v216 : Ref sig .tc := ⟨.hbm, 235, rfl⟩
abbrev main_v217 : Ref sig .tc := ⟨.hbm, 236, rfl⟩
abbrev main_v218 : Ref sig .tc := ⟨.hbm, 237, rfl⟩
abbrev main_v219 : Ref sig .tc := ⟨.hbm, 238, rfl⟩
abbrev main_v220 : Ref sig .tc := ⟨.hbm, 239, rfl⟩
abbrev main_v221 : Ref sig .tc := ⟨.hbm, 240, rfl⟩
abbrev main_v222 : Ref sig .tc := ⟨.hbm, 241, rfl⟩
abbrev main_v223 : Ref sig .tc := ⟨.hbm, 242, rfl⟩
abbrev main_v224 : Ref sig .tc := ⟨.hbm, 243, rfl⟩
abbrev main_v225 : Ref sig .tc := ⟨.hbm, 244, rfl⟩
abbrev main_v226 : Ref sig .tc := ⟨.hbm, 245, rfl⟩
abbrev main_v227 : Ref sig .tc := ⟨.hbm, 246, rfl⟩
abbrev main_v228 : Ref sig .tc := ⟨.hbm, 247, rfl⟩
abbrev main_v229 : Ref sig .tc := ⟨.hbm, 248, rfl⟩
abbrev main_v230 : Ref sig .tc := ⟨.hbm, 249, rfl⟩
abbrev main_v231 : Ref sig .tc := ⟨.hbm, 250, rfl⟩
abbrev main_v232 : Ref sig .tc := ⟨.hbm, 251, rfl⟩
abbrev main_v233 : Ref sig .tc := ⟨.hbm, 252, rfl⟩
abbrev main_v234 : Ref sig .tc := ⟨.hbm, 253, rfl⟩
abbrev main_v235 : Ref sig .tc := ⟨.hbm, 254, rfl⟩
abbrev main_v236 : Ref sig .tc := ⟨.hbm, 255, rfl⟩
abbrev main_v237 : Ref sig .tc := ⟨.hbm, 256, rfl⟩
abbrev main_v238 : Ref sig .tc := ⟨.hbm, 257, rfl⟩
abbrev main_v239 : Ref sig .tc := ⟨.hbm, 258, rfl⟩
abbrev main_v240 : Ref sig .tc := ⟨.hbm, 259, rfl⟩
abbrev main_v241 : Ref sig .tc := ⟨.hbm, 260, rfl⟩
abbrev main_v242 : Ref sig .tc := ⟨.hbm, 261, rfl⟩
abbrev main_v243 : Ref sig .tc := ⟨.hbm, 262, rfl⟩
abbrev main_v244 : Ref sig .tc := ⟨.hbm, 263, rfl⟩
abbrev main_v245 : Ref sig .tc := ⟨.hbm, 264, rfl⟩
abbrev main_v246 : Ref sig .tc := ⟨.hbm, 265, rfl⟩
abbrev main_v247 : Ref sig .tc := ⟨.hbm, 266, rfl⟩
abbrev main_v248 : Ref sig .tc := ⟨.hbm, 267, rfl⟩
abbrev main_v249 : Ref sig .tc := ⟨.hbm, 268, rfl⟩
abbrev main_v250 : Ref sig .tc := ⟨.hbm, 269, rfl⟩
abbrev main_v251 : Ref sig .tc := ⟨.hbm, 270, rfl⟩
abbrev main_v252 : Ref sig .tc := ⟨.hbm, 271, rfl⟩
abbrev main_v253 : Ref sig .tc := ⟨.hbm, 272, rfl⟩
abbrev main_v254 : Ref sig .tc := ⟨.hbm, 273, rfl⟩
abbrev main_cst_1 : Ref sig .tc := ⟨.hbm, 274, rfl⟩
abbrev main_v255 : Ref sig .tc := ⟨.hbm, 275, rfl⟩
abbrev main_v256 : Ref sig .tc := ⟨.hbm, 276, rfl⟩
abbrev main_v257 : Ref sig .tc := ⟨.hbm, 277, rfl⟩
abbrev main_v258 : Ref sig .tc := ⟨.hbm, 278, rfl⟩
abbrev main_v259 : Ref sig .tc := ⟨.hbm, 279, rfl⟩
abbrev main_v260 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_call2_cst : Ref sig .tc := ⟨.hbm, 285, rfl⟩
abbrev main_call2_v0 : Ref sig .tc := ⟨.hbm, 286, rfl⟩
abbrev main_v265 : Ref sig .tc := ⟨.hbm, 287, rfl⟩
abbrev main_v266 : Ref sig .tc := ⟨.hbm, 288, rfl⟩
abbrev main_v267 : Ref sig .tc := ⟨.hbm, 289, rfl⟩
abbrev main_v268 : Ref sig .tc := ⟨.hbm, 290, rfl⟩
abbrev main_v269 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_cst_2 : Ref sig .tc := ⟨.hbm, 299, rfl⟩
abbrev main_v277 : Ref sig .tc := ⟨.hbm, 300, rfl⟩
abbrev main_v278 : Ref sig .tc := ⟨.hbm, 301, rfl⟩
abbrev main_cst_3 : Ref sig .tc := ⟨.hbm, 302, rfl⟩
abbrev main_v279 : Ref sig .tc := ⟨.hbm, 303, rfl⟩
abbrev main_v280 : Ref sig .tc := ⟨.hbm, 304, rfl⟩
abbrev main_v281 : Ref sig .tc := ⟨.hbm, 305, rfl⟩
abbrev main_v282 : Ref sig .tc := ⟨.hbm, 306, rfl⟩
abbrev main_v283 : Ref sig .tc := ⟨.hbm, 307, rfl⟩
abbrev main_cst_4 : Ref sig .tc := ⟨.hbm, 308, rfl⟩
abbrev main_v284 : Ref sig .tc := ⟨.hbm, 309, rfl⟩
abbrev main_v285 : Ref sig .tc := ⟨.hbm, 310, rfl⟩
abbrev main_cst_5 : Ref sig .tc := ⟨.hbm, 311, rfl⟩
abbrev main_v286 : Ref sig .tc := ⟨.hbm, 312, rfl⟩
abbrev main_v287 : Ref sig .tc := ⟨.hbm, 313, rfl⟩
abbrev main_v288 : Ref sig .tc := ⟨.hbm, 314, rfl⟩
abbrev main_v289 : Ref sig .tc := ⟨.hbm, 315, rfl⟩
abbrev main_v290 : Ref sig .tc := ⟨.hbm, 316, rfl⟩
abbrev main_v291 : Ref sig .tc := ⟨.hbm, 317, rfl⟩
abbrev main_cst_6 : Ref sig .tc := ⟨.hbm, 318, rfl⟩
abbrev main_cst_7 : Ref sig .tc := ⟨.hbm, 319, rfl⟩
abbrev main_cst_8 : Ref sig .tc := ⟨.hbm, 320, rfl⟩
abbrev main_v292 : Ref sig .tc := ⟨.hbm, 321, rfl⟩
abbrev main_v293 : Ref sig .tc := ⟨.hbm, 322, rfl⟩
abbrev main_v294 : Ref sig .tc := ⟨.hbm, 323, rfl⟩
abbrev main_v295 : Ref sig .tc := ⟨.hbm, 324, rfl⟩
abbrev main_v296 : Ref sig .tc := ⟨.hbm, 325, rfl⟩
abbrev main_cst_9 : Ref sig .tc := ⟨.hbm, 326, rfl⟩
abbrev main_cst_10 : Ref sig .tc := ⟨.hbm, 327, rfl⟩
abbrev main_cst_11 : Ref sig .tc := ⟨.hbm, 328, rfl⟩
abbrev main_v297 : Ref sig .tc := ⟨.hbm, 329, rfl⟩
abbrev main_v298 : Ref sig .tc := ⟨.hbm, 330, rfl⟩
abbrev main_v299 : Ref sig .tc := ⟨.hbm, 331, rfl⟩
abbrev main_v300 : Ref sig .tc := ⟨.hbm, 332, rfl⟩
abbrev main_v301 : Ref sig .tc := ⟨.hbm, 333, rfl⟩
abbrev main_v302 : Ref sig .tc := ⟨.hbm, 334, rfl⟩
abbrev main_v303 : Ref sig .tc := ⟨.hbm, 335, rfl⟩
abbrev main_v304 : Ref sig .tc := ⟨.hbm, 336, rfl⟩
abbrev main_v305 : Ref sig .tc := ⟨.hbm, 337, rfl⟩
abbrev main_cst_12 : Ref sig .tc := ⟨.hbm, 338, rfl⟩
abbrev main_v306 : Ref sig .tc := ⟨.hbm, 339, rfl⟩
abbrev main_v307 : Ref sig .tc := ⟨.hbm, 340, rfl⟩
abbrev main_v308 : Ref sig .tc := ⟨.hbm, 341, rfl⟩
abbrev main_v309 : Ref sig .tc := ⟨.hbm, 342, rfl⟩
abbrev main_v310 : Ref sig .tc := ⟨.hbm, 343, rfl⟩
abbrev main_v311 : Ref sig .tc := ⟨.hbm, 344, rfl⟩
abbrev main_cst_13 : Ref sig .tc := ⟨.hbm, 345, rfl⟩
abbrev main_v312 : Ref sig .tc := ⟨.hbm, 346, rfl⟩
abbrev main_v313 : Ref sig .tc := ⟨.hbm, 347, rfl⟩
abbrev main_v314 : Ref sig .tc := ⟨.hbm, 348, rfl⟩
abbrev main_v315 : Ref sig .tc := ⟨.hbm, 349, rfl⟩
abbrev main_v316 : Ref sig .tc := ⟨.hbm, 350, rfl⟩
abbrev main_v317 : Ref sig .tc := ⟨.hbm, 351, rfl⟩
abbrev main_v318 : Ref sig .tc := ⟨.hbm, 352, rfl⟩
abbrev main_cst_14 : Ref sig .tc := ⟨.hbm, 353, rfl⟩
abbrev main_v319 : Ref sig .tc := ⟨.hbm, 354, rfl⟩
abbrev main_v320 : Ref sig .tc := ⟨.hbm, 355, rfl⟩
abbrev main_v321 : Ref sig .tc := ⟨.hbm, 356, rfl⟩
abbrev main_v322 : Ref sig .tc := ⟨.hbm, 357, rfl⟩
abbrev main_v323 : Ref sig .tc := ⟨.hbm, 358, rfl⟩
abbrev main_v324 : Ref sig .tc := ⟨.hbm, 359, rfl⟩
abbrev main_v325 : Ref sig .tc := ⟨.hbm, 360, rfl⟩
abbrev main_cst_15 : Ref sig .tc := ⟨.hbm, 361, rfl⟩
abbrev main_v326 : Ref sig .tc := ⟨.hbm, 362, rfl⟩
abbrev main_v327 : Ref sig .tc := ⟨.hbm, 363, rfl⟩
abbrev main_v328 : Ref sig .tc := ⟨.hbm, 364, rfl⟩
abbrev main_v329 : Ref sig .tc := ⟨.hbm, 365, rfl⟩
abbrev main_v330 : Ref sig .tc := ⟨.hbm, 366, rfl⟩
abbrev main_v331 : Ref sig .tc := ⟨.hbm, 367, rfl⟩
abbrev main_v332 : Ref sig .tc := ⟨.hbm, 368, rfl⟩
abbrev main_v333 : Ref sig .tc := ⟨.hbm, 369, rfl⟩
abbrev main_v334 : Ref sig .tc := ⟨.hbm, 370, rfl⟩

abbrev nD : Nat := 1
abbrev τ : Topo := Topo.v7x

variable {F : FTy → Type} [FloatOps F]
-- ==== Proof.Pad.lean ====
module

public import proofs.«01_k».proof.Proof.Gen.KernelIdeal.Frame.RunA
public import Idealize.ShloMosaic.Lib.Pointwise
public import Idealize.ShloMosaic.Lib.Pipeline.Value

@[expose] public section

set_option maxRecDepth 16384

noncomputable section

namespace Cert.Head

open Idealize.ShloMosaic Idealize.ShloMosaic.TcCoe Idealize.SL.Sem
open Cert.KernelIdeal Cert.KernelIdeal.Gen

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16)
  (a16 : Memref sig .tc .vmem S5x928x256 .f32)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- A slab of 31 rows of an image with one more row under it, read at one of the image's rows. -/
theorem slab31 {α : Type} (A : S961x256.Idx → α) (Z : S1x256.Idx → α) (o : ℕ)
    (hs : Shape.Slices S961x256 ![o, 0] S31x256)
    (hc : Shape.Concatenates [S31x256, S1x256] S32x256 0) (j : Fin 32) (k : Fin 256) (s : Fin 961)
    (hj : j.val < 31) (hv : s.val = o + j.val) :
    concatenate S32x256 0 [⟨S31x256, extractStridedSlice S31x256 ![o, 0] A hs⟩, ⟨S1x256, Z⟩] hc (ix2 j k) = A (ix2 s k) := by
  refine Eq.trans (concatenate_apply_piece (0 : Fin S32x256.rank) _ _ (ix2 j k) 0 (by simp) S31x256 _ rfl rfl 0 rfl
    (ix2 ⟨j.val, hj⟩ k) ?_ ?_) ?_
  · intro b hb
    match b with
    | ⟨0, _⟩ => exact absurd rfl hb
    | ⟨1, _⟩ => rfl
  · show 0 + j.val = j.val
    omega
  · refine extractStridedSlice_apply ![o, 0] A hs (ix2 ⟨j.val, hj⟩ k) (ix2 s k) fun a => ?_
    match a with
    | ⟨0, _⟩ => exact hv
    | ⟨1, _⟩ => show k.val = 0 + k.val; omega

/-- A slab of 7 rows of an image with one more row under it, read at one of the image's rows. -/
theorem slab7 {α : Type} (A : S49x256.Idx → α) (Z : S1x256.Idx → α) (o : ℕ)
    (hs : Shape.Slices S49x256 ![o, 0] S7x256)
    (hc : Shape.Concatenates [S7x256, S1x256] S8x256 0) (j : Fin 8) (k : Fin 256) (s : Fin 49)
    (hj : j.val < 7) (hv : s.val = o + j.val) :
    concatenate S8x256 0 [⟨S7x256, extractStridedSlice S7x256 ![o, 0] A hs⟩, ⟨S1x256, Z⟩] hc (ix2 j k) = A (ix2 s k) := by
  refine Eq.trans (concatenate_apply_piece (0 : Fin S8x256.rank) _ _ (ix2 j k) 0 (by simp) S7x256 _ rfl rfl 0 rfl
    (ix2 ⟨j.val, hj⟩ k) ?_ ?_) ?_
  · intro b hb
    match b with
    | ⟨0, _⟩ => exact absurd rfl hb
    | ⟨1, _⟩ => rfl
  · show 0 + j.val = j.val
    omega
  · refine extractStridedSlice_apply ![o, 0] A hs (ix2 ⟨j.val, hj⟩ k) (ix2 s k) fun a => ?_
    match a with
    | ⟨0, _⟩ => exact hv
    | ⟨1, _⟩ => show k.val = 0 + k.val; omega

/-- Blocks of 32 rows stacked: row `32 i + j` of the stack is row `j` of block `i`; `pre` is what lies above block `i`. -/
theorem above32 {α : Type} (fs : List (S32x256.Idx → α)) (i : ℕ) (hi : i ≤ fs.length) :
    ((((fs.map fun f => (⟨S32x256, f⟩ : (s : Shape) × (s.Idx → α))).take i).map (·.1)).map
      fun s => if h : s.rank = S1024x256.rank then s.size ((0 : Fin S1024x256.rank).cast h.symm) else 0).sum = 32 * i := by
  induction fs generalizing i with
  | nil => simp at hi; subst hi; rfl
  | cons f fs ih =>
    cases i with
    | zero => rfl
    | succ i =>
      have := ih i (by simpa using hi)
      simp only [List.map_cons, List.take_succ_cons, List.sum_cons, this]
      show 32 + 32 * i = 32 * (i + 1)
      omega

/-- Blocks of 32 rows stacked: row `32 i + j` of the stack is row `j` of block `i`. -/
theorem stack32 {α : Type} (fs : List (S32x256.Idx → α))
    (hc : Shape.Concatenates ((fs.map fun f => (⟨S32x256, f⟩ : (s : Shape) × (s.Idx → α))).map (·.1)) S1024x256 0)
    (i : ℕ) (hi : i < fs.length) (j : Fin 32) (k : Fin 256) (r : Fin 1024) (hr : r.val = 32 * i + j.val) :
    concatenate S1024x256 0 (fs.map fun f => ⟨S32x256, f⟩) hc (ix2 r k) = fs[i] (ix2 j k) := by
  refine concatenate_apply_piece (0 : Fin S1024x256.rank) _ hc (ix2 r k) i (by simpa using hi) S32x256 _ (by simp) rfl
    (32 * i) (above32 fs i hi.le) (ix2 j k) ?_ hr.symm
  intro b hb
  match b with
  | ⟨0, _⟩ => exact absurd rfl hb
  | ⟨1, _⟩ => rfl

set_option maxHeartbeats 1600000 in
/-- The search image with its columns padded to 32: row `32 i + j` is the image at row `i`, column `j`. -/
theorem x32_at (r : Fin 1024) (k : Fin 256) (i j : Fin 31) (s : Fin 961) (hr : r.val = 32 * i.val + j.val)
    (hs : s.val = 31 * i.val + j.val) : (kernelRun0_A.sl.v125 (F := Ideal) c a2 h2 x1) (ix2 r k) = x1 (ix3 0 k s) := by
  have e : (kernelRun0_A.sl.v7 (F := Ideal) c a2 h2 x1) (ix2 s k) = x1 (ix3 0 k s) := by
    unfold kernelRun0_A.sl.v7 kernelRun0_A.sl.v6 kernelRun0_A.sl.v5
    rw [View.readAt_eq_ld, h2.read_unread]
    pointwise
  rw [← e]
  obtain ⟨i, hi⟩ := i
  replace hr : r.val = 32 * i + (⟨j.val, by omega⟩ : Fin 32).val := hr
  replace hs : s.val = 31 * i + j.val := hs
  have hj := j.isLt
  unfold kernelRun0_A.sl.v125
  refine Eq.trans (stack32 [_, _, _, _, _, _, _, _, _, _, _, _, _, _, _, _, _, _, _, _, _, _, _, _, _, _, _, _, _, _, _, _] _ i (by simpa using by omega) ⟨j.val, by omega⟩ k r hr) ?_
  interval_cases i
  · exact slab31 _ _ 0 (by decide) (by decide) _ _ _ hj (by simpa using hs)
  · exact slab31 _ _ 31 (by decide) (by decide) _ _ _ hj (by simpa using hs)
  · exact slab31 _ _ 62 (by decide) (by decide) _ _ _ hj (by simpa using hs)
  · exact slab31 _ _ 93 (by decide) (by decide) _ _ _ hj (by simpa using hs)
  · exact slab31 _ _ 124 (by decide) (by decide) _ _ _ hj (by simpa using hs)
  · exact slab31 _ _ 155 (by decide) (by decide) _ _ _ hj (by simpa using hs)
  · exact slab31 _ _ 186 (by decide) (by decide) _ _ _ hj (by simpa using hs)
  · exact slab31 _ _ 217 (by decide) (by decide) _ _ _ hj (by simpa using hs)
  · exact slab31 _ _ 248 (by decide) (by decide) _ _ _ hj (by simpa using hs)
  · exact slab31 _ _ 279 (by decide) (by decide) _ _ _ hj (by simpa using hs)
  · exact slab31 _ _ 310 (by decide) (by decide) _ _ _ hj (by simpa using hs)
  · exact slab31 _ _ 341 (by decide) (by decide) _ _ _ hj (by simpa using hs)
  · exact slab31 _ _ 372 (by decide) (by decide) _ _ _ hj (by simpa using hs)
  · exact slab31 _ _ 403 (by decide) (by decide) _ _ _ hj (by simpa using hs)
  · exact slab31 _ _ 434 (by decide) (by decide) _ _ _ hj (by simpa using hs)
  · exact slab31 _ _ 465 (by decide) (by decide) _ _ _ hj (by simpa using hs)
  · exact slab31 _ _ 496 (by decide) (by decide) _ _ _ hj (by simpa using hs)
  · exact slab31 _ _ 527 (by decide) (by decide) _ _ _ hj (by simpa using hs)
  · exact slab31 _ _ 558 (by decide) (by decide) _ _ _ hj (by simpa using hs)
  · exact slab31 _ _ 589 (by decide) (by decide) _ _ _ hj (by simpa using hs)
  · exact slab31 _ _ 620 (by decide) (by decide) _ _ _ hj (by simpa using hs)
  · exact slab31 _ _ 651 (by decide) (by decide) _ _ _ hj (by simpa using hs)
  · exact slab31 _ _ 682 (by decide) (by decide) _ _ _ hj (by simpa using hs)
  · exact slab31 _ _ 713 (by decide) (by decide) _ _ _ hj (by simpa using hs)
  · exact slab31 _ _ 744 (by decide) (by decide) _ _ _ hj (by simpa using hs)
  · exact slab31 _ _ 775 (by decide) (by decide) _ _ _ hj (by simpa using hs)
  · exact slab31 _ _ 806 (by decide) (by decide) _ _ _ hj (by simpa using hs)
  · exact slab31 _ _ 837 (by decide) (by decide) _ _ _ hj (by simpa using hs)
  · exact slab31 _ _ 868 (by decide) (by decide) _ _ _ hj (by simpa using hs)
  · exact slab31 _ _ 899 (by decide) (by decide) _ _ _ hj (by simpa using hs)
  · exact slab31 _ _ 930 (by decide) (by decide) _ _ _ hj (by simpa using hs)
set_option maxHeartbeats 1600000 in
/-- The template with its columns padded to 8: row `8 i + j` is the template at row `i`, column `j`. -/
theorem z8_at (r : Fin 72) (k : Fin 256) (i j : Fin 7) (s : Fin 49) (hr : r.val = 8 * i.val + j.val)
    (hs : s.val = 7 * i.val + j.val) : (kernelRun0_A.sl.v30 (F := Ideal) c a1 h1 x0) (ix2 r k) = x0 (ix3 0 k s) := by
  have e : (kernelRun0_A.sl.v3 (F := Ideal) c a1 h1 x0) (ix2 s k) = x0 (ix3 0 k s) := by
    unfold kernelRun0_A.sl.v3 kernelRun0_A.sl.v2 kernelRun0_A.sl.v1
    rw [View.readAt_eq_ld, h1.read_unread]
    pointwise
  rw [← e]
  obtain ⟨i, hi⟩ := i
  replace hr : r.val = 8 * i + j.val := hr
  replace hs : s.val = 7 * i + j.val := hs
  have hj := j.isLt
  have key : ∀ b : Fin S8x256.rank, b.cast (rfl : S8x256.rank = S72x256.rank) ≠ (0 : Fin S72x256.rank) → ((ix2 (⟨j.val, by omega⟩ : Fin 8) k : S8x256.Idx) b).val = ((ix2 r k : S72x256.Idx) (b.cast rfl)).val := by
    intro b hb
    match b with
    | ⟨0, _⟩ => exact absurd rfl hb
    | ⟨1, _⟩ => rfl
  unfold kernelRun0_A.sl.v30
  interval_cases i
  · refine Eq.trans (concatenate_apply_piece (0 : Fin S72x256.rank) _ _ (ix2 r k) 0 (by simp) S8x256 _ rfl rfl 0 rfl (ix2 ⟨j.val, by omega⟩ k) key (show 0 + j.val = r.val by omega)) ?_
    exact slab7 _ _ 0 (by decide) (by decide) _ _ _ hj (by simpa using hs)
  · refine Eq.trans (concatenate_apply_piece (0 : Fin S72x256.rank) _ _ (ix2 r k) 1 (by simp) S8x256 _ rfl rfl 8 rfl (ix2 ⟨j.val, by omega⟩ k) key (show 8 + j.val = r.val by omega)) ?_
    exact slab7 _ _ 7 (by decide) (by decide) _ _ _ hj (by simpa using hs)
  · refine Eq.trans (concatenate_apply_piece (0 : Fin S72x256.rank) _ _ (ix2 r k) 2 (by simp) S8x256 _ rfl rfl 16 rfl (ix2 ⟨j.val, by omega⟩ k) key (show 16 + j.val = r.val by omega)) ?_
    exact slab7 _ _ 14 (by decide) (by decide) _ _ _ hj (by simpa using hs)
  · refine Eq.trans (concatenate_apply_piece (0 : Fin S72x256.rank) _ _ (ix2 r k) 3 (by simp) S8x256 _ rfl rfl 24 rfl (ix2 ⟨j.val, by omega⟩ k) key (show 24 + j.val = r.val by omega)) ?_
    exact slab7 _ _ 21 (by decide) (by decide) _ _ _ hj (by simpa using hs)
  · refine Eq.trans (concatenate_apply_piece (0 : Fin S72x256.rank) _ _ (ix2 r k) 4 (by simp) S8x256 _ rfl rfl 32 rfl (ix2 ⟨j.val, by omega⟩ k) key (show 32 + j.val = r.val by omega)) ?_
    exact slab7 _ _ 28 (by decide) (by decide) _ _ _ hj (by simpa using hs)
  · refine Eq.trans (concatenate_apply_piece (0 : Fin S72x256.rank) _ _ (ix2 r k) 5 (by simp) S8x256 _ rfl rfl 40 rfl (ix2 ⟨j.val, by omega⟩ k) key (show 40 + j.val = r.val by omega)) ?_
    exact slab7 _ _ 35 (by decide) (by decide) _ _ _ hj (by simpa using hs)
  · refine Eq.trans (concatenate_apply_piece (0 : Fin S72x256.rank) _ _ (ix2 r k) 6 (by simp) S8x256 _ rfl rfl 48 rfl (ix2 ⟨j.val, by omega⟩ k) key (show 48 + j.val = r.val by omega)) ?_
    exact slab7 _ _ 42 (by decide) (by decide) _ _ _ hj (by simpa using hs)
end Cert.Head

end
-- ==== Proof.Spec.lean ====
module

public import Idealize.ShloMosaic.Lib.Pointwise

@[expose] public section

set_option maxRecDepth 16384

noncomputable section

namespace Cert.Head

open Idealize.ShloMosaic

/-- The normalization's constant: one over the square root of one plus the epsilon. -/
def kap : EReal := (((Real.sqrt (2097173 / 2097152))⁻¹ : ℝ) : EReal)

/-- One tap of a convolution with a 3 × 3 window: the channels' products summed. -/
def tap (m : ℕ) (X : Fin 256 → Fin (m + 2) → Fin (m + 2) → EReal) (W : Fin 3 → Fin 3 → Fin 256 → EReal)
    (d e : Fin 3) (i j : Fin m) : EReal :=
  ∑ k : Fin 256, X k ⟨i.val + d.val, by omega⟩ ⟨j.val + e.val, by omega⟩ * W d e k

/-- A convolution with a 3 × 3 window: its taps added in order. -/
def conv (m : ℕ) (X : Fin 256 → Fin (m + 2) → Fin (m + 2) → EReal) (W : Fin 3 → Fin 3 → Fin 256 → EReal)
    (i j : Fin m) : EReal :=
  tap m X W 0 0 i j + tap m X W 0 1 i j + tap m X W 0 2 i j + tap m X W 1 0 i j + tap m X W 1 1 i j + tap m X W 1 2 i j + tap m X W 2 0 i j + tap m X W 2 1 i j + tap m X W 2 2 i j

/-- The normalization followed by the rectifier. -/
def act (v g b : EReal) : EReal := max (v * (g * kap) + b) 0

/-- One tap of the correlation of a channel. -/
def xtap (S : Fin 29 → Fin 29 → EReal) (K : Fin 5 → Fin 5 → EReal) (d e : Fin 5) (i j : Fin 25) : EReal :=
  S ⟨i.val + d.val, by omega⟩ ⟨j.val + e.val, by omega⟩ * K d e

/-- The correlation of a channel of the search image with the same channel of the template: its taps added in order. -/
def xcorr (S : Fin 29 → Fin 29 → EReal) (K : Fin 5 → Fin 5 → EReal) (i j : Fin 25) : EReal :=
  xtap S K 0 0 i j + xtap S K 0 1 i j + xtap S K 0 2 i j + xtap S K 0 3 i j + xtap S K 0 4 i j + xtap S K 1 0 i j + xtap S K 1 1 i j + xtap S K 1 2 i j + xtap S K 1 3 i j + xtap S K 1 4 i j + xtap S K 2 0 i j + xtap S K 2 1 i j + xtap S K 2 2 i j + xtap S K 2 3 i j + xtap S K 2 4 i j + xtap S K 3 0 i j + xtap S K 3 1 i j + xtap S K 3 2 i j + xtap S K 3 3 i j + xtap S K 3 4 i j + xtap S K 4 0 i j + xtap S K 4 1 i j + xtap S K 4 2 i j + xtap S K 4 3 i j + xtap S K 4 4 i j

/-- The template's features: its convolution, normalized and rectified. -/
def kernF (Z : Fin 256 → Fin 7 → Fin 7 → EReal) (W : Fin 256 → Fin 3 → Fin 3 → Fin 256 → EReal) (g b : Fin 256 → EReal)
    (o : Fin 256) (i j : Fin 5) : EReal := act (conv 5 Z (W o) i j) (g o) (b o)

/-- The search image's features: its convolution, normalized and rectified. -/
def srchF (X : Fin 256 → Fin 31 → Fin 31 → EReal) (W : Fin 256 → Fin 3 → Fin 3 → Fin 256 → EReal) (g b : Fin 256 → EReal)
    (o : Fin 256) (i j : Fin 29) : EReal := act (conv 29 X (W o) i j) (g o) (b o)

/-- The hidden layer: the correlations mixed over the channels, normalized and rectified. -/
def hidF (S : Fin 256 → Fin 29 → Fin 29 → EReal) (K : Fin 256 → Fin 5 → Fin 5 → EReal) (W : Fin 256 → Fin 256 → EReal)
    (g b : Fin 256 → EReal) (o : Fin 256) (i j : Fin 25) : EReal :=
  act (∑ k : Fin 256, xcorr (S k) (K k) i j * W o k) (g o) (b o)

/-- The head's output before the decode. -/
def outF (H : Fin 256 → Fin 25 → Fin 25 → EReal) (W : Fin 18 → Fin 256 → EReal) (b : Fin 18 → EReal)
    (o : Fin 18) (i j : Fin 25) : EReal := (∑ k : Fin 256, H k i j * W o k) + b o

/-- The width's anchor factor. -/
def anchW (a : Fin 3) : EReal := if a.val = 0 then Ideal.ofBits .f32 0x42E80000#32 else if a.val = 1 then Ideal.ofBits .f32 0x431C0000#32 else Ideal.ofBits .f32 0x43BA8000#32

/-- The height's anchor factor. -/
def anchH (a : Fin 3) : EReal := if a.val = 0 then Ideal.ofBits .f32 0x42B40000#32 else if a.val = 1 then Ideal.ofBits .f32 0x43460000#32 else Ideal.ofBits .f32 0x43A30000#32

/-- The decode of anchor `a`'s column `q` at row `i` and column `j` of the grid. -/
def decF (a : Fin 3) (q : Fin 6) (i j : Fin 25) (v : EReal) : EReal :=
  if q.val = 0 then (Ideal.logistic v + ((j.val : ℝ) : EReal)) * Ideal.ofBits .f32 0x42000000#32
  else if q.val = 1 then (Ideal.logistic v + ((i.val : ℝ) : EReal)) * Ideal.ofBits .f32 0x42000000#32
  else if q.val = 2 then Ideal.exp v * anchW a
  else if q.val = 3 then Ideal.exp v * anchH a
  else Ideal.logistic v

/-- The prediction in row `r` (anchor, grid row, grid column) and column `q`. -/
def predF (O : Fin 18 → Fin 25 → Fin 25 → EReal) (r : Fin 1875) (q : Fin 6) : EReal :=
  decF ⟨r.val / 625, by omega⟩ q ⟨r.val / 25 % 25, by omega⟩ ⟨r.val % 25, by omega⟩
    (O ⟨6 * (r.val / 625) + q.val, by omega⟩ ⟨r.val / 25 % 25, by omega⟩ ⟨r.val % 25, by omega⟩)

end Cert.Head

end
-- ==== Proof.Conv1.lean ====
module

public import proofs.«01_k».proof.Proof.Pad
public import proofs.«01_k».proof.Proof.Spec

@[expose] public section

set_option maxRecDepth 16384

noncomputable section

namespace Cert.Head

open Idealize.ShloMosaic Idealize.ShloMosaic.TcCoe Idealize.SL.Sem Cert.KernelIdeal Cert.KernelIdeal.Gen

/-- The kernel's constant is the normalization's. -/
theorem named_kap : Named.named (F := Ideal) (φ := .f32) κ "inv_bn" 1065353132#32 = kap :=
  IdealRules.named_const.ideal_named_scalar _ _ _ _ rfl

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16)
  (a16 : Memref sig .tc .vmem S5x928x256 .f32)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- The product of a block of rows and a weight table at an element: the channels' products summed. -/
theorem mm40 (A : FVec Ideal S40x256 .bf16) (B : FVec Ideal S256x256 .bf16) (r : Fin 40) (o : Fin 256) :
    matmul dot_S40x256_S256x256_S40x256_1_0_0_1_n_n none A B (kernelRun0_A.sl.cst_58 (F := Ideal)) (ix2 r o)
      = ∑ k : Fin 256, A (ix2 r k) * B (ix2 k o) := by
  unfold kernelRun0_A.sl.cst_58
  pointwise

/-- A window of rows of a window of rows, read at an element. -/
theorem win40 {α : Type} (A : S72x256.Idx → α) (d e : ℕ) (h : Shape.Slices S72x256 ![e, 0] S56x256)
    (h' : Shape.Slices S56x256 ![d, 0] S40x256) (r : Fin 40) (k : Fin 256) (s : Fin 72) (hs : s.val = d + e + r.val) :
    extractStridedSlice S40x256 ![d, 0] (extractStridedSlice S56x256 ![e, 0] A h) h' (ix2 r k) = A (ix2 s k) := by
  have hd : d + 40 ≤ 56 := h'.2 0
  refine (extractStridedSlice_apply ![d, 0] _ h' (ix2 r k) (ix2 (⟨d + r.val, by omega⟩ : Fin 56) k) ?_).trans
    (extractStridedSlice_apply ![e, 0] A h _ (ix2 s k) ?_)
  · intro a
    match a with
    | ⟨0, _⟩ => rfl
    | ⟨1, _⟩ => exact (Nat.zero_add _).symm
  · intro a
    match a with
    | ⟨0, _⟩ => exact show s.val = e + (d + r.val) by omega
    | ⟨1, _⟩ => exact (Nat.zero_add _).symm

/-- The template block as an image: channel `k` at row `i` and column `j`. -/
def zimg (x : FVec Ideal S1x256x49 .f32) (k : Fin 256) (i j : Fin 7) : EReal := x (ix3 0 k ⟨7 * i.val + j.val, by omega⟩)

/-- A tap's table of weights without its two leading axes. -/
theorem drop2 {α : Type} (A : S1x1x256x256.Idx → α) (h) (k o : Fin 256) :
    shapeCast S256x256 A h (ix2 k o) = A (ix4 0 0 k o) := by
  pointwise

/-- A load of tap (d, e) of the template's weights at a pair of channels. -/
theorem w1_at (d e : Fin 3) (p q : ℕ) (hp : p = d.val) (hq : q = e.val) (inb)
    (h : S1x1x256x256.ShapeCasts S256x256) (k o : Fin 256) :
    shapeCast S256x256 (View.readAt (Elt Ideal) a3.view (Rect.unit (s := S3x3x256x256) ![p, q, 0, 0] S1x1x256x256.size inb).toLoadRect (h3.unread x2)) h (ix2 k o)
      = x2 (ix4 d e k o) := by
  subst hp hq
  rw [View.readAt_eq_ld, h3.read_unread]
  refine (drop2 _ h k o).trans (congrArg x2 (funext fun a => Fin.ext ?_))
  match a with
  | ⟨0, _⟩ => exact show d.val + 1 * 0 = d.val by omega
  | ⟨1, _⟩ => exact show e.val + 1 * 0 = e.val by omega
  | ⟨2, _⟩ => exact show 0 + 1 * k.val = k.val by omega
  | ⟨3, _⟩ => exact show 0 + 1 * o.val = o.val by omega

/-- Tap (d, e) of the template's convolution at row `8 i + j`. -/
theorem z_tap (d e : Fin 3) (p q u v : ℕ) (hp : p = d.val) (hq : q = e.val) (hu : u = 8 * d.val) (hv : v = e.val) (e1) (e2)
    (e3 : S1x1x256x256.ShapeCasts S256x256) (inb)
    (r : Fin 40) (o : Fin 256) (i j : Fin 5) (hr : r.val = 8 * i.val + j.val) :
    matmul dot_S40x256_S256x256_S40x256_1_0_0_1_n_n none (φ₁ := .bf16) (φ₂ := .bf16)
      (extractStridedSlice S40x256 ![u, 0] (extractStridedSlice S56x256 ![v, 0] (kernelRun0_A.sl.v30 (F := Ideal) c a1 h1 x0) e1) e2)
      (shapeCast S256x256 (View.readAt (Elt Ideal) a3.view (Rect.unit (s := S3x3x256x256) ![p, q, 0, 0] S1x1x256x256.size inb).toLoadRect (h3.unread x2)) e3)
      (kernelRun0_A.sl.cst_58 (F := Ideal)) (ix2 r o) = tap 5 (zimg x0) (fun d e k => x2 (ix4 d e k o)) d e i j := by
  refine (mm40 _ _ r o).trans (Finset.sum_congr rfl fun k _ => Ideal.mul_congr ?_ (w1_at a3 h3 x2 d e p q hp hq inb e3 k o))
  refine (win40 _ u v _ _ r k ⟨u + v + r.val, by omega⟩ rfl).trans ?_
  exact z8_at c a1 h1 x0 _ k ⟨i.val + d.val, by omega⟩ ⟨j.val + e.val, by omega⟩ _ (by simp only []; omega) rfl

/-- The template's convolution at row `8 i + j`. -/
theorem z_conv (r : Fin 40) (o : Fin 256) (i j : Fin 5) (hr : r.val = 8 * i.val + j.val) :
    (kernelRun0_A.sl.v189 (F := Ideal) c a1 h1 a3 h3 x0 x2) (ix2 r o) = conv 5 (zimg x0) (fun d e k => x2 (ix4 d e k o)) i j := by
  unfold conv kernelRun0_A.sl.v189 kernelRun0_A.sl.v184 kernelRun0_A.sl.v179 kernelRun0_A.sl.v174 kernelRun0_A.sl.v169 kernelRun0_A.sl.v164 kernelRun0_A.sl.v159 kernelRun0_A.sl.v154 kernelRun0_A.sl.v149
    kernelRun0_A.sl.v188 kernelRun0_A.sl.v183 kernelRun0_A.sl.v178 kernelRun0_A.sl.v173 kernelRun0_A.sl.v168 kernelRun0_A.sl.v163 kernelRun0_A.sl.v158 kernelRun0_A.sl.v153 kernelRun0_A.sl.v148
    kernelRun0_A.sl.v187 kernelRun0_A.sl.v182 kernelRun0_A.sl.v177 kernelRun0_A.sl.v172 kernelRun0_A.sl.v167 kernelRun0_A.sl.v162 kernelRun0_A.sl.v157 kernelRun0_A.sl.v152 kernelRun0_A.sl.v147
    kernelRun0_A.sl.v185 kernelRun0_A.sl.v180 kernelRun0_A.sl.v175 kernelRun0_A.sl.v170 kernelRun0_A.sl.v165 kernelRun0_A.sl.v160 kernelRun0_A.sl.v155 kernelRun0_A.sl.v150 kernelRun0_A.sl.v145
    kernelRun0_A.sl.v143 kernelRun0_A.sl.v142 kernelRun0_A.sl.v141
  iterate 8
    refine Ideal.add_congr ?_ ?_
    rotate_left
    · exact z_tap c a1 h1 a3 h3 x0 x2 _ _ _ _ _ _ (by rfl) (by rfl) (by rfl) (by rfl) _ _ _ _ r o i j hr
  refine Eq.trans ?_ (zero_add _)
  refine Ideal.add_congr ?_ ?_
  rotate_left
  · exact z_tap c a1 h1 a3 h3 x0 x2 _ _ _ _ _ _ (by rfl) (by rfl) (by rfl) (by rfl) _ _ _ _ r o i j hr
  unfold kernelRun0_A.sl.v144 kernelRun0_A.sl.cst_53
  pointwise

/-- The template's features (normalized, rectified) at row `8 i + j`. -/
theorem z_kern (r : Fin 40) (o : Fin 256) (i j : Fin 5) (hr : r.val = 8 * i.val + j.val) :
    (kernelRun0_A.sl.r_4 (F := Ideal) c a1 h1 a3 h3 a7 h7 a8 h8 x0 x2 x6 x7) (ix2 r o) = act (conv 5 (zimg x0) (fun d e k => x2 (ix4 d e k o)) i j) (x6 (ix2 0 o)) (x7 (ix2 0 o)) := by
  unfold kernelRun0_A.sl.r_4 kernelRun0_A.sl.r_1 kernelRun0_A.sl.r k0_pay40 k0_pay36
  rw [View.readAt_eq_ld, View.readAt_eq_ld, h7.read_unread, h8.read_unread]
  dsimp only
  pointwise
  rw [z_conv c a1 h1 a3 h3 x0 x2 r o i j hr, named_kap]
  rfl

end Cert.Head

end
-- ==== Proof.Conv2.lean ====
module

public import proofs.«01_k».proof.Proof.Conv1

@[expose] public section

set_option maxRecDepth 16384

noncomputable section

namespace Cert.Head

open Idealize.ShloMosaic Idealize.ShloMosaic.TcCoe Idealize.SL.Sem Cert.KernelIdeal Cert.KernelIdeal.Gen

/-- The contents left by a list of writes, read at an element of the last write: that write's payload. -/
theorem canon_hit {s : Shape} {e : EltTy} (r : Rect s) (w : r.shape.Idx → Elt Ideal e) (L : List (View.Piece (Elt Ideal) s e))
    (y : s.Idx) (x : r.shape.Idx) (h : ∀ a, (y a).val = r.off a + r.stride a * (x a).val) :
    View.canon (⟨r, w⟩ :: L) y = w x := by
  have : y = r.emb x := funext fun a => Fin.ext (h a)
  rw [this]
  exact View.canon_cons_emb r w L x

/-- The contents left by a list of writes, read off the last write: what the earlier writes left. -/
theorem canon_miss {s : Shape} {e : EltTy} {off size : Fin s.rank → ℕ} {inb : ∀ a, off a + size a ≤ s.size a}
    (w : (Rect.unit off size inb).shape.Idx → Elt Ideal e) (L : List (View.Piece (Elt Ideal) s e))
    (y : s.Idx) (a : Fin s.rank) (h : (y a).val < off a) :
    View.canon (⟨Rect.unit off size inb, w⟩ :: L) y = View.canon L y :=
  View.canon_cons_of_not_mem _ _ fun hm => absurd ((Rect.mem_set_unit (inb := inb).mp hm) a).1 (Nat.not_le.mpr h)

/-- Contents of `n` copies, of which the last written is copy `q`, read in that copy: that write's payload. -/
theorem copy_hit {n m : ℕ} {e : EltTy} (E : Fin n) (q : ℕ) (hq : E.val = q) (inb)
    (w : (⟨3, ![1, m, 256]⟩ : Shape).Idx → Elt Ideal e) (L : List (View.Piece (Elt Ideal) ⟨3, ![n, m, 256]⟩ e)) (r : Fin m) (k : Fin 256) :
    View.canon (⟨Rect.unit (s := ⟨3, ![n, m, 256]⟩) ![q, 0, 0] ![1, m, 256] inb, w⟩ :: L) (ix3 E r k) = w (ix3 0 r k) := by
  refine canon_hit (Rect.unit (s := ⟨3, ![n, m, 256]⟩) ![q, 0, 0] ![1, m, 256] inb) w L _ (ix3 0 r k) fun a => ?_
  match a with
  | ⟨0, _⟩ => exact show E.val = q + 1 * 0 by omega
  | ⟨1, _⟩ => exact show r.val = 0 + 1 * r.val by omega
  | ⟨2, _⟩ => exact show k.val = 0 + 1 * k.val by omega

/-- Contents of `n` copies, of which the last written is copy `q`, read in an earlier copy: what the earlier writes left. -/
theorem copy_miss {n m : ℕ} {e : EltTy} (E : Fin n) (q : ℕ) (hq : E.val < q) (inb)
    (w : (⟨3, ![1, m, 256]⟩ : Shape).Idx → Elt Ideal e) (L : List (View.Piece (Elt Ideal) ⟨3, ![n, m, 256]⟩ e)) (r : Fin m) (k : Fin 256) :
    View.canon (⟨Rect.unit (s := ⟨3, ![n, m, 256]⟩) ![q, 0, 0] ![1, m, 256] inb, w⟩ :: L) (ix3 E r k) = View.canon L (ix3 E r k) :=
  canon_miss w L _ 0 hq

/-- A table moved up by `d` rows over `d` other rows, read at one of its rows. -/
theorem up_rows {α : Type} {n : ℕ} (m d : ℕ) (A : (⟨2, ![n, 256]⟩ : Shape).Idx → α)
    (h : Shape.Slices ⟨2, ![n, 256]⟩ ![d, 0] ⟨2, ![m, 256]⟩) (Z : (⟨2, ![d, 256]⟩ : Shape).Idx → α)
    (hc : Shape.Concatenates [⟨2, ![m, 256]⟩, ⟨2, ![d, 256]⟩] ⟨2, ![n, 256]⟩ 0) (r : Fin n) (k : Fin 256) (s : Fin n)
    (hs : s.val = r.val + d) :
    concatenate ⟨2, ![n, 256]⟩ 0 [⟨⟨2, ![m, 256]⟩, extractStridedSlice ⟨2, ![m, 256]⟩ ![d, 0] A h⟩, ⟨⟨2, ![d, 256]⟩, Z⟩] hc (ix2 r k)
      = A (ix2 s k) := by
  have hm : m + d = n := by simpa using hc.2
  have hr : r.val < m := by omega
  refine Eq.trans (concatenate_apply_piece (0 : Fin (⟨2, ![n, 256]⟩ : Shape).rank) _ _ (ix2 r k) 0 (by simp) ⟨2, ![m, 256]⟩ _ rfl rfl 0 rfl
    (ix2 ⟨r.val, hr⟩ k) ?_ ?_) ?_
  · intro b hb
    match b with
    | ⟨0, _⟩ => exact absurd rfl hb
    | ⟨1, _⟩ => rfl
  · show 0 + r.val = r.val
    omega
  · refine extractStridedSlice_apply ![d, 0] A h (ix2 ⟨r.val, hr⟩ k) (ix2 s k) fun a => ?_
    match a with
    | ⟨0, _⟩ => exact show s.val = d + r.val by omega
    | ⟨1, _⟩ => exact (Nat.zero_add _).symm

/-- A table of the first scratch with a leading axis of one. -/
theorem lead1024 {α : Type} (A : S1024x256.Idx → α) (h) (r : Fin 1024) (k : Fin 256) :
    shapeCast S1x1024x256 A h (ix3 0 r k) = A (ix2 r k) := by
  pointwise

/-- The product of a block of rows and a weight table at an element: the channels' products summed. -/
theorem mm928 (A : FVec Ideal S928x256 .bf16) (B : FVec Ideal S256x256 .bf16) (r : Fin 928) (o : Fin 256) :
    matmul dot_S928x256_S256x256_S928x256_1_0_0_1_n_n none A B (kernelRun0_A.sl.cst_136 (F := Ideal)) (ix2 r o)
      = ∑ k : Fin 256, A (ix2 r k) * B (ix2 k o) := by
  unfold kernelRun0_A.sl.cst_136
  pointwise

theorem max_two {a a' b b' : EReal} (ha : a = a') (hb : b = b') : max a b = max a' b' := by rw [ha, hb]

/-- A slab of a table read without its leading axis. -/
theorem drop1 {α : Type} (A : S1x928x256.Idx → α) (h) (r : Fin 928) (k : Fin 256) :
    shapeCast S928x256 A h (ix2 r k) = A (ix3 0 r k) := by
  pointwise

/-- The search block as an image: channel `k` at row `i` and column `j`. -/
def ximg (x : FVec Ideal S1x256x961 .f32) (k : Fin 256) (i j : Fin 31) : EReal := x (ix3 0 k ⟨31 * i.val + j.val, by omega⟩)

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16)
  (a16 : Memref sig .tc .vmem S5x928x256 .f32)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- The first scratch's copy `e`, read at a row: the padded image `e` rows further down. -/
theorem sc0 (e : Fin 3) (r : Fin 1024) (k : Fin 256) (s : Fin 1024) (hs : s.val = r.val + e.val) :
    View.canon (kernelRun0_A.sl.HS0_3 (F := Ideal) c a2 h2 x1) (ix3 e r k) = (kernelRun0_A.sl.v125 (F := Ideal) c a2 h2 x1) (ix2 s k) := by
  unfold kernelRun0_A.sl.HS0_3
  match e, hs with
  | ⟨0, _⟩, hs =>
    obtain rfl : r = s := Fin.ext (by simpa using hs.symm)
    refine (copy_miss _ 2 (show 0 < 2 by omega) _ _ _ r k).trans ((copy_miss _ 1 (show 0 < 1 by omega) _ _ _ r k).trans ((copy_hit _ 0 rfl _ _ _ r k).trans ?_))
    exact lead1024 _ _ r k
  | ⟨1, _⟩, hs =>
    refine (copy_miss _ 2 (show 1 < 2 by omega) _ _ _ r k).trans ((copy_hit _ 1 rfl _ _ _ r k).trans ?_)
    exact (lead1024 _ _ r k).trans (up_rows 1023 1 _ _ _ _ r k s hs)
  | ⟨2, _⟩, hs =>
    refine (copy_hit _ 2 rfl _ _ _ r k).trans ?_
    exact (lead1024 _ _ r k).trans (up_rows 1022 2 _ _ _ _ r k s hs)

/-- The read of tap (d, e) of the first scratch at row `32 i + j`. -/
theorem x_row (d e : Fin 3) (p q : ℕ) (hp : p = e.val) (hq : q = 32 * d.val) (inb) (r : Fin 928) (k : Fin 256) (i j : Fin 29)
    (hr : r.val = 32 * i.val + j.val) :
    a15.view.readCov (kernelRun0_A.sl.HS0_3 (F := Ideal) c a2 h2 x1) (Rect.unit (s := S3x1024x256) ![p, q, 0] S1x928x256.size inb).toLoadRect (ix3 0 r k)
      = ximg x1 k ⟨i.val + d.val, by omega⟩ ⟨j.val + e.val, by omega⟩ := by
  rw [View.readCov_eq_canon']
  refine Eq.trans (congrArg _ (funext fun a => Fin.ext ?_)) ((sc0 c a2 h2 x1 e ⟨q + r.val, by omega⟩ k ⟨q + r.val + e.val, by omega⟩ rfl).trans
    (x32_at c a2 h2 x1 _ k ⟨i.val + d.val, by omega⟩ ⟨j.val + e.val, by omega⟩ _ (by simp only []; omega) rfl))
  match a with
  | ⟨0, _⟩ => exact show p + 1 * 0 = e.val by omega
  | ⟨1, _⟩ => exact show q + 1 * r.val = q + r.val by omega
  | ⟨2, _⟩ => exact show 0 + 1 * k.val = k.val by omega

/-- Tap (d, e) of the search image's convolution at row `32 i + j`. -/
theorem x_tap (d e : Fin 3) (p q u v : ℕ) (hp : p = e.val) (hq : q = 32 * d.val) (hu : u = d.val) (hv : v = e.val) (inb) (inb')
    (h : S1x928x256.ShapeCasts S928x256) (h' : S1x1x256x256.ShapeCasts S256x256)
    (r : Fin 928) (o : Fin 256) (i j : Fin 29) (hr : r.val = 32 * i.val + j.val) :
    matmul dot_S928x256_S256x256_S928x256_1_0_0_1_n_n none (φ₁ := .bf16) (φ₂ := .bf16)
      (shapeCast S928x256 (a15.view.readCov (kernelRun0_A.sl.HS0_3 (F := Ideal) c a2 h2 x1) (Rect.unit (s := S3x1024x256) ![p, q, 0] S1x928x256.size inb).toLoadRect) h)
      (shapeCast S256x256 (View.readAt (Elt Ideal) a4.view (Rect.unit (s := S3x3x256x256) ![u, v, 0, 0] S1x1x256x256.size inb').toLoadRect (h4.unread x3)) h')
      (kernelRun0_A.sl.cst_136 (F := Ideal)) (ix2 r o)
      = tap 29 (ximg x1) (fun d e k => x3 (ix4 d e k o)) d e i j := by
  refine (mm928 _ _ r o).trans (Finset.sum_congr rfl fun k _ => Ideal.mul_congr ?_ (w1_at a4 h4 x3 d e u v hu hv inb' h' k o))
  exact (drop1 _ h r k).trans (x_row c a2 h2 a15 x1 d e p q hp hq inb r k i j hr)

/-- The search image's convolution up to tap (0, 2) at row `32 i + j`. -/
theorem x_conv02 (r : Fin 928) (o : Fin 256) (i j : Fin 29) (hr : r.val = 32 * i.val + j.val) :
    (kernelRun0_A.sl.v222 (F := Ideal) c a2 h2 a4 h4 a15 x1 x3) (ix2 r o) = tap 29 (ximg x1) (fun d e k => x3 (ix4 d e k o)) 0 0 i j
      + tap 29 (ximg x1) (fun d e k => x3 (ix4 d e k o)) 0 1 i j + tap 29 (ximg x1) (fun d e k => x3 (ix4 d e k o)) 0 2 i j := by
  unfold kernelRun0_A.sl.v222 kernelRun0_A.sl.r_2 kernelRun0_A.sl.r_3 k0_pay37 k0_pay38
  refine Ideal.add_congr (Ideal.add_congr (Eq.trans ?_ (zero_add _)) (x_tap c a2 h2 a4 h4 a15 x1 x3 0 1 _ _ _ _ (by rfl) (by rfl) (by rfl) (by rfl) _ _ _ _ r o i j hr)) (x_tap c a2 h2 a4 h4 a15 x1 x3 0 2 _ _ _ _ (by rfl) (by rfl) (by rfl) (by rfl) _ _ _ _ r o i j hr)
  refine Ideal.add_congr ?_ (x_tap c a2 h2 a4 h4 a15 x1 x3 0 0 _ _ _ _ (by rfl) (by rfl) (by rfl) (by rfl) _ _ _ _ r o i j hr)
  pointwise

/-- The search image's convolution up to tap (2, 0) at row `32 i + j`. -/
theorem x_conv20 (r : Fin 928) (o : Fin 256) (i j : Fin 29) (hr : r.val = 32 * i.val + j.val) :
    (kernelRun0_A.sl.v246 (F := Ideal) c a2 h2 a4 h4 a15 x1 x3) (ix2 r o) = tap 29 (ximg x1) (fun d e k => x3 (ix4 d e k o)) 0 0 i j
      + tap 29 (ximg x1) (fun d e k => x3 (ix4 d e k o)) 0 1 i j + tap 29 (ximg x1) (fun d e k => x3 (ix4 d e k o)) 0 2 i j
      + tap 29 (ximg x1) (fun d e k => x3 (ix4 d e k o)) 1 0 i j + tap 29 (ximg x1) (fun d e k => x3 (ix4 d e k o)) 1 1 i j
      + tap 29 (ximg x1) (fun d e k => x3 (ix4 d e k o)) 1 2 i j + tap 29 (ximg x1) (fun d e k => x3 (ix4 d e k o)) 2 0 i j := by
  unfold kernelRun0_A.sl.v246 kernelRun0_A.sl.v240 kernelRun0_A.sl.v234 kernelRun0_A.sl.v228
    kernelRun0_A.sl.v245 kernelRun0_A.sl.v239 kernelRun0_A.sl.v233 kernelRun0_A.sl.v227
    kernelRun0_A.sl.v224 kernelRun0_A.sl.v226 kernelRun0_A.sl.v230 kernelRun0_A.sl.v232 kernelRun0_A.sl.v236 kernelRun0_A.sl.v238
    kernelRun0_A.sl.v242 kernelRun0_A.sl.v244
  exact Ideal.add_congr (Ideal.add_congr (Ideal.add_congr (Ideal.add_congr (x_conv02 c a2 h2 a4 h4 a15 x1 x3 r o i j hr) (x_tap c a2 h2 a4 h4 a15 x1 x3 1 0 _ _ _ _ (by rfl) (by rfl) (by rfl) (by rfl) _ _ _ _ r o i j hr)) (x_tap c a2 h2 a4 h4 a15 x1 x3 1 1 _ _ _ _ (by rfl) (by rfl) (by rfl) (by rfl) _ _ _ _ r o i j hr)) (x_tap c a2 h2 a4 h4 a15 x1 x3 1 2 _ _ _ _ (by rfl) (by rfl) (by rfl) (by rfl) _ _ _ _ r o i j hr)) (x_tap c a2 h2 a4 h4 a15 x1 x3 2 0 _ _ _ _ (by rfl) (by rfl) (by rfl) (by rfl) _ _ _ _ r o i j hr)

/-- The search image's features (normalized, rectified) at row `32 i + j`. -/
theorem x_srch (r : Fin 928) (o : Fin 256) (i j : Fin 29) (hr : r.val = 32 * i.val + j.val) :
    (kernelRun0_A.sl.r_5 (F := Ideal) c a2 h2 a4 h4 a9 h9 a10 h10 a15 x1 x3 x8 x9) (ix2 r o) = act (conv 29 (ximg x1) (fun d e k => x3 (ix4 d e k o)) i j) (x8 (ix2 0 o)) (x9 (ix2 0 o)) := by
  unfold kernelRun0_A.sl.r_5 k0_pay41
  rw [View.readAt_eq_ld a9.view, View.readAt_eq_ld a10.view, h9.read_unread, h10.read_unread]
  dsimp only
  refine max_two ?_ (by pointwise)
  refine Ideal.add_congr (Ideal.mul_congr (Ideal.add_congr (Ideal.add_congr (x_conv20 c a2 h2 a4 h4 a15 x1 x3 r o i j hr) (x_tap c a2 h2 a4 h4 a15 x1 x3 2 1 _ _ _ _ (by rfl) (by rfl) (by rfl) (by rfl) _ _ _ _ r o i j hr)) (x_tap c a2 h2 a4 h4 a15 x1 x3 2 2 _ _ _ _ (by rfl) (by rfl) (by rfl) (by rfl) _ _ _ _ r o i j hr)) ?_) (by pointwise)
  rw [← named_kap]
  pointwise

end Cert.Head

end
-- ==== Proof.Hid.lean ====
module

public import proofs.«01_k».proof.Proof.Conv2

@[expose] public section

set_option maxRecDepth 16384

noncomputable section

namespace Cert.Head

open Idealize.ShloMosaic Idealize.ShloMosaic.TcCoe Idealize.SL.Sem Cert.KernelIdeal Cert.KernelIdeal.Gen

/-- A table of the second scratch with a leading axis of one. -/
theorem lead928 {α : Type} (A : S928x256.Idx → α) (h) (r : Fin 928) (k : Fin 256) :
    shapeCast S1x928x256 A h (ix3 0 r k) = A (ix2 r k) := by
  pointwise

/-- One tap's product at an element: the row of the search features times the template's row. -/
theorem mul_row (A : FVec Ideal S1x800x256 .f32) (B : FVec Ideal S40x256 .f32) (q : ℕ) (h) (h') (h'') (r : Fin 800) (k : Fin 256)
    (s : Fin 40) (hs : s.val = q) :
    mulf (shapeCast S800x256 A h) (broadcastTo S800x256 (extractStridedSlice S1x256 ![q, 0] B h') h'') (ix2 r k)
      = A (ix3 0 r k) * B (ix2 s k) := by
  refine Ideal.mul_congr (by pointwise) ?_
  refine Eq.trans (b := extractStridedSlice S1x256 ![q, 0] B h' (ix2 0 k)) (by pointwise) ?_
  refine extractStridedSlice_apply ![q, 0] B h' (ix2 0 k) (ix2 s k) fun a => ?_
  match a with
  | ⟨0, _⟩ => exact hs
  | ⟨1, _⟩ => exact (Nat.zero_add _).symm

/-- The product of a block of rows and a weight table at an element: the channels' products summed. -/
theorem mm800 (A : FVec Ideal S800x256 .bf16) (B : FVec Ideal S256x256 .bf16) (r : Fin 800) (o : Fin 256) :
    matmul dot_S800x256_S256x256_S800x256_1_0_0_1_n_n none A B (constant S800x256 .f32 0x00000000#32) (ix2 r o)
      = ∑ k : Fin 256, A (ix2 r k) * B (ix2 k o) := by
  pointwise

/-- The product of a block of rows and the last weight table at an element: the channels' products summed. -/
theorem mm18 (A : FVec Ideal S800x256 .bf16) (B : FVec Ideal S256x18 .bf16) (r : Fin 800) (o : Fin 18) :
    matmul dot_S800x256_S256x18_S800x18_1_0_0_1_n_n none A B (kernelRun0_A.sl.cst_284 (F := Ideal)) (ix2 r o)
      = ∑ k : Fin 256, A (ix2 r k) * B (ix2 k o) := by
  unfold kernelRun0_A.sl.cst_284
  pointwise

/-- The template's features of a block. -/
def kernB (x0 : FVec Ideal S1x256x49 .f32) (x2 : FVec Ideal S3x3x256x256 .bf16) (x6 x7 : FVec Ideal S1x256 .f32) :
    Fin 256 → Fin 5 → Fin 5 → EReal :=
  kernF (zimg x0) (fun o d e k => x2 (ix4 d e k o)) (fun o => x6 (ix2 0 o)) (fun o => x7 (ix2 0 o))

/-- The search features of a block. -/
def srchB (x1 : FVec Ideal S1x256x961 .f32) (x3 : FVec Ideal S3x3x256x256 .bf16) (x8 x9 : FVec Ideal S1x256 .f32) :
    Fin 256 → Fin 29 → Fin 29 → EReal :=
  srchF (ximg x1) (fun o d e k => x3 (ix4 d e k o)) (fun o => x8 (ix2 0 o)) (fun o => x9 (ix2 0 o))

/-- The hidden layer of a block. -/
def hidB (x0 : FVec Ideal S1x256x49 .f32) (x1 : FVec Ideal S1x256x961 .f32) (x2 x3 : FVec Ideal S3x3x256x256 .bf16)
    (x4 : FVec Ideal S256x256 .bf16) (x6 x7 x8 x9 x10 x11 : FVec Ideal S1x256 .f32) : Fin 256 → Fin 25 → Fin 25 → EReal :=
  hidF (srchB x1 x3 x8 x9) (kernB x0 x2 x6 x7) (fun o k => x4 (ix2 k o)) (fun o => x10 (ix2 0 o)) (fun o => x11 (ix2 0 o))

/-- The output of a block before the decode. -/
def outB (x0 : FVec Ideal S1x256x49 .f32) (x1 : FVec Ideal S1x256x961 .f32) (x2 x3 : FVec Ideal S3x3x256x256 .bf16)
    (x4 : FVec Ideal S256x256 .bf16) (x5 : FVec Ideal S256x18 .bf16) (x6 x7 x8 x9 x10 x11 : FVec Ideal S1x256 .f32)
    (x12 : FVec Ideal S1x18 .f32) : Fin 18 → Fin 25 → Fin 25 → EReal :=
  outF (hidB x0 x1 x2 x3 x4 x6 x7 x8 x9 x10 x11) (fun o k => x5 (ix2 k o)) (fun o => x12 (ix2 0 o))

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16)
  (a16 : Memref sig .tc .vmem S5x928x256 .f32)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- The second scratch's copy `e`, read at a row: the search features `e` rows further down. -/
theorem sc1 (e : Fin 5) (r : Fin 928) (k : Fin 256) (s : Fin 928) (hs : s.val = r.val + e.val) :
    View.canon (kernelRun0_A.sl.HS1_5 (F := Ideal) c a2 h2 a4 h4 a9 h9 a10 h10 a15 x1 x3 x8 x9) (ix3 e r k) = (kernelRun0_A.sl.r_5 (F := Ideal) c a2 h2 a4 h4 a9 h9 a10 h10 a15 x1 x3 x8 x9) (ix2 s k) := by
  unfold kernelRun0_A.sl.HS1_5
  match e, hs with
  | ⟨0, _⟩, hs =>
    obtain rfl : r = s := Fin.ext (by simpa using hs.symm)
    refine (copy_miss _ 4 (show 0 < 4 by omega) _ _ _ r k).trans ?_
    refine (copy_miss _ 3 (show 0 < 3 by omega) _ _ _ r k).trans ?_
    refine (copy_miss _ 2 (show 0 < 2 by omega) _ _ _ r k).trans ?_
    refine (copy_miss _ 1 (show 0 < 1 by omega) _ _ _ r k).trans ?_
    refine (copy_hit _ 0 rfl _ _ _ r k).trans ?_
    unfold k0_pay42 kernelRun0_A.sl.r_5
    exact lead928 _ _ r k
  | ⟨1, _⟩, hs =>
    refine (copy_miss _ 4 (show 1 < 4 by omega) _ _ _ r k).trans ?_
    refine (copy_miss _ 3 (show 1 < 3 by omega) _ _ _ r k).trans ?_
    refine (copy_miss _ 2 (show 1 < 2 by omega) _ _ _ r k).trans ?_
    refine (copy_hit _ 1 rfl _ _ _ r k).trans ?_
    unfold kernelRun0_A.sl.v285 kernelRun0_A.sl.r_6 k0_pay43 kernelRun0_A.sl.r_5
    exact (lead928 _ _ r k).trans (up_rows 927 1 _ _ _ _ r k s hs)
  | ⟨2, _⟩, hs =>
    refine (copy_miss _ 4 (show 2 < 4 by omega) _ _ _ r k).trans ?_
    refine (copy_miss _ 3 (show 2 < 3 by omega) _ _ _ r k).trans ?_
    refine (copy_hit _ 2 rfl _ _ _ r k).trans ?_
    unfold kernelRun0_A.sl.v291 kernelRun0_A.sl.v288 kernelRun0_A.sl.v286
    exact (lead928 _ _ r k).trans (up_rows 926 2 _ _ _ _ r k s hs)
  | ⟨3, _⟩, hs =>
    refine (copy_miss _ 4 (show 3 < 4 by omega) _ _ _ r k).trans ?_
    refine (copy_hit _ 3 rfl _ _ _ r k).trans ?_
    unfold kernelRun0_A.sl.v297 kernelRun0_A.sl.v294 kernelRun0_A.sl.v292
    exact (lead928 _ _ r k).trans (up_rows 925 3 _ _ _ _ r k s hs)
  | ⟨4, _⟩, hs =>
    refine (copy_hit _ 4 rfl _ _ _ r k).trans ?_
    unfold kernelRun0_A.sl.v303 kernelRun0_A.sl.v300 kernelRun0_A.sl.v298
    exact (lead928 _ _ r k).trans (up_rows 924 4 _ _ _ _ r k s hs)

/-- The read of tap (d, e) of the second scratch at row `32 i + j`. -/
theorem s_row (d e : Fin 5) (p q : ℕ) (hp : p = e.val) (hq : q = 32 * d.val) (inb) (r : Fin 800) (k : Fin 256) (i j : Fin 25)
    (hr : r.val = 32 * i.val + j.val) :
    a16.view.readCov (kernelRun0_A.sl.HS1_5 (F := Ideal) c a2 h2 a4 h4 a9 h9 a10 h10 a15 x1 x3 x8 x9) (Rect.unit (s := S5x928x256) ![p, q, 0] S1x800x256.size inb).toLoadRect (ix3 0 r k)
      = srchB x1 x3 x8 x9 k ⟨i.val + d.val, by omega⟩ ⟨j.val + e.val, by omega⟩ := by
  rw [View.readCov_eq_canon']
  refine Eq.trans (congrArg _ (funext fun a => Fin.ext ?_)) ((sc1 c a2 h2 a4 h4 a9 h9 a10 h10 a15 x1 x3 x8 x9 e ⟨q + r.val, by omega⟩ k ⟨q + r.val + e.val, by omega⟩ rfl).trans
    (x_srch c a2 h2 a4 h4 a9 h9 a10 h10 a15 x1 x3 x8 x9 _ k ⟨i.val + d.val, by omega⟩ ⟨j.val + e.val, by omega⟩ (by simp only []; omega)))
  match a with
  | ⟨0, _⟩ => exact show p + 1 * 0 = e.val by omega
  | ⟨1, _⟩ => exact show q + 1 * r.val = q + r.val by omega
  | ⟨2, _⟩ => exact show 0 + 1 * k.val = k.val by omega

/-- Tap (d, e) of the correlation at row `32 i + j`. -/
theorem f_tap (d e : Fin 5) (p q u : ℕ) (hp : p = e.val) (hq : q = 32 * d.val) (hu : u = 8 * d.val + e.val) (inb)
    (h : S1x800x256.ShapeCasts S800x256) (h') (h'') (r : Fin 800) (k : Fin 256) (i j : Fin 25) (hr : r.val = 32 * i.val + j.val) :
    mulf (shapeCast S800x256 (a16.view.readCov (kernelRun0_A.sl.HS1_5 (F := Ideal) c a2 h2 a4 h4 a9 h9 a10 h10 a15 x1 x3 x8 x9) (Rect.unit (s := S5x928x256) ![p, q, 0] S1x800x256.size inb).toLoadRect) h)
      (broadcastTo S800x256 (extractStridedSlice S1x256 ![u, 0] (kernelRun0_A.sl.r_4 (F := Ideal) c a1 h1 a3 h3 a7 h7 a8 h8 x0 x2 x6 x7) h') h'') (ix2 r k)
      = xtap (srchB x1 x3 x8 x9 k) (kernB x0 x2 x6 x7 k) d e i j :=
  (mul_row _ _ u h h' h'' r k ⟨u, by omega⟩ rfl).trans
    (Ideal.mul_congr (s_row c a2 h2 a4 h4 a9 h9 a10 h10 a15 a16 x1 x3 x8 x9 d e p q hp hq inb r k i j hr)
      (z_kern c a1 h1 a3 h3 a7 h7 a8 h8 x0 x2 x6 x7 ⟨u, by omega⟩ k d e hu))

/-- The correlation up to tap (4, 1) at row `32 i + j`. -/
theorem f_21 (r : Fin 800) (k : Fin 256) (i j : Fin 25) (hr : r.val = 32 * i.val + j.val) :
    (kernelRun0_A.sl.v436 (F := Ideal) c a1 h1 a2 h2 a3 h3 a4 h4 a7 h7 a8 h8 a9 h9 a10 h10 a15 a16 x0 x1 x2 x3 x6 x7 x8 x9) (ix2 r k) = xtap (srchB x1 x3 x8 x9 k) (kernB x0 x2 x6 x7 k) 0 0 i j + xtap (srchB x1 x3 x8 x9 k) (kernB x0 x2 x6 x7 k) 0 1 i j + xtap (srchB x1 x3 x8 x9 k) (kernB x0 x2 x6 x7 k) 0 2 i j + xtap (srchB x1 x3 x8 x9 k) (kernB x0 x2 x6 x7 k) 0 3 i j + xtap (srchB x1 x3 x8 x9 k) (kernB x0 x2 x6 x7 k) 0 4 i j + xtap (srchB x1 x3 x8 x9 k) (kernB x0 x2 x6 x7 k) 1 0 i j + xtap (srchB x1 x3 x8 x9 k) (kernB x0 x2 x6 x7 k) 1 1 i j + xtap (srchB x1 x3 x8 x9 k) (kernB x0 x2 x6 x7 k) 1 2 i j + xtap (srchB x1 x3 x8 x9 k) (kernB x0 x2 x6 x7 k) 1 3 i j + xtap (srchB x1 x3 x8 x9 k) (kernB x0 x2 x6 x7 k) 1 4 i j + xtap (srchB x1 x3 x8 x9 k) (kernB x0 x2 x6 x7 k) 2 0 i j + xtap (srchB x1 x3 x8 x9 k) (kernB x0 x2 x6 x7 k) 2 1 i j + xtap (srchB x1 x3 x8 x9 k) (kernB x0 x2 x6 x7 k) 2 2 i j + xtap (srchB x1 x3 x8 x9 k) (kernB x0 x2 x6 x7 k) 2 3 i j + xtap (srchB x1 x3 x8 x9 k) (kernB x0 x2 x6 x7 k) 2 4 i j + xtap (srchB x1 x3 x8 x9 k) (kernB x0 x2 x6 x7 k) 3 0 i j + xtap (srchB x1 x3 x8 x9 k) (kernB x0 x2 x6 x7 k) 3 1 i j + xtap (srchB x1 x3 x8 x9 k) (kernB x0 x2 x6 x7 k) 3 2 i j + xtap (srchB x1 x3 x8 x9 k) (kernB x0 x2 x6 x7 k) 3 3 i j + xtap (srchB x1 x3 x8 x9 k) (kernB x0 x2 x6 x7 k) 3 4 i j + xtap (srchB x1 x3 x8 x9 k) (kernB x0 x2 x6 x7 k) 4 0 i j + xtap (srchB x1 x3 x8 x9 k) (kernB x0 x2 x6 x7 k) 4 1 i j := by
  unfold kernelRun0_A.sl.v436 kernelRun0_A.sl.v430 kernelRun0_A.sl.v424 kernelRun0_A.sl.v418 kernelRun0_A.sl.v412 kernelRun0_A.sl.v406 kernelRun0_A.sl.v400 kernelRun0_A.sl.v394
    kernelRun0_A.sl.v388 kernelRun0_A.sl.v382 kernelRun0_A.sl.v376 kernelRun0_A.sl.v370 kernelRun0_A.sl.v364 kernelRun0_A.sl.v358 kernelRun0_A.sl.v352 kernelRun0_A.sl.v346
    kernelRun0_A.sl.v340 kernelRun0_A.sl.v334 kernelRun0_A.sl.v328 kernelRun0_A.sl.v322 kernelRun0_A.sl.v316 kernelRun0_A.sl.v310 kernelRun0_A.sl.v309 kernelRun0_A.sl.v307
    kernelRun0_A.sl.v308 kernelRun0_A.sl.v305 kernelRun0_A.sl.v315 kernelRun0_A.sl.v313 kernelRun0_A.sl.v314 kernelRun0_A.sl.v311 kernelRun0_A.sl.v321 kernelRun0_A.sl.v319
    kernelRun0_A.sl.v320 kernelRun0_A.sl.v317 kernelRun0_A.sl.v327 kernelRun0_A.sl.v325 kernelRun0_A.sl.v326 kernelRun0_A.sl.v323 kernelRun0_A.sl.v333 kernelRun0_A.sl.v331
    kernelRun0_A.sl.v332 kernelRun0_A.sl.v329 kernelRun0_A.sl.v339 kernelRun0_A.sl.v337 kernelRun0_A.sl.v338 kernelRun0_A.sl.v335 kernelRun0_A.sl.v345 kernelRun0_A.sl.v343
    kernelRun0_A.sl.v344 kernelRun0_A.sl.v341 kernelRun0_A.sl.v351 kernelRun0_A.sl.v349 kernelRun0_A.sl.v350 kernelRun0_A.sl.v347 kernelRun0_A.sl.v357 kernelRun0_A.sl.v355
    kernelRun0_A.sl.v356 kernelRun0_A.sl.v353 kernelRun0_A.sl.v363 kernelRun0_A.sl.v361 kernelRun0_A.sl.v362 kernelRun0_A.sl.v359 kernelRun0_A.sl.v369 kernelRun0_A.sl.v367
    kernelRun0_A.sl.v368 kernelRun0_A.sl.v365 kernelRun0_A.sl.v375 kernelRun0_A.sl.v373 kernelRun0_A.sl.v374 kernelRun0_A.sl.v371 kernelRun0_A.sl.v381 kernelRun0_A.sl.v379
    kernelRun0_A.sl.v380 kernelRun0_A.sl.v377 kernelRun0_A.sl.v387 kernelRun0_A.sl.v385 kernelRun0_A.sl.v386 kernelRun0_A.sl.v383 kernelRun0_A.sl.v393 kernelRun0_A.sl.v391
    kernelRun0_A.sl.v392 kernelRun0_A.sl.v389 kernelRun0_A.sl.v399 kernelRun0_A.sl.v397 kernelRun0_A.sl.v398 kernelRun0_A.sl.v395 kernelRun0_A.sl.v405 kernelRun0_A.sl.v403
    kernelRun0_A.sl.v404 kernelRun0_A.sl.v401 kernelRun0_A.sl.v411 kernelRun0_A.sl.v409 kernelRun0_A.sl.v410 kernelRun0_A.sl.v407 kernelRun0_A.sl.v417 kernelRun0_A.sl.v415
    kernelRun0_A.sl.v416 kernelRun0_A.sl.v413 kernelRun0_A.sl.v423 kernelRun0_A.sl.v421 kernelRun0_A.sl.v422 kernelRun0_A.sl.v419 kernelRun0_A.sl.v429 kernelRun0_A.sl.v427
    kernelRun0_A.sl.v428 kernelRun0_A.sl.v425 kernelRun0_A.sl.v435 kernelRun0_A.sl.v433 kernelRun0_A.sl.v434 kernelRun0_A.sl.v431 kernelRun0_A.sl.v306 kernelRun0_A.sl.v312
    kernelRun0_A.sl.v318 kernelRun0_A.sl.v324 kernelRun0_A.sl.v330 kernelRun0_A.sl.v336 kernelRun0_A.sl.v342 kernelRun0_A.sl.v348 kernelRun0_A.sl.v354 kernelRun0_A.sl.v360
    kernelRun0_A.sl.v366 kernelRun0_A.sl.v372 kernelRun0_A.sl.v378 kernelRun0_A.sl.v384 kernelRun0_A.sl.v390 kernelRun0_A.sl.v396 kernelRun0_A.sl.v402 kernelRun0_A.sl.v408
    kernelRun0_A.sl.v414 kernelRun0_A.sl.v420 kernelRun0_A.sl.v426 kernelRun0_A.sl.v432
  iterate 21
    refine Ideal.add_congr ?_ ?_
    rotate_left
    · exact f_tap c a1 h1 a2 h2 a3 h3 a4 h4 a7 h7 a8 h8 a9 h9 a10 h10 a15 a16 x0 x1 x2 x3 x6 x7 x8 x9 _ _ _ _ _ (by rfl) (by rfl) (by rfl) _ _ _ _ r k i j hr
  refine Eq.trans ?_ (zero_add _)
  refine Ideal.add_congr ?_ ?_
  rotate_left
  · exact f_tap c a1 h1 a2 h2 a3 h3 a4 h4 a7 h7 a8 h8 a9 h9 a10 h10 a15 a16 x0 x1 x2 x3 x6 x7 x8 x9 _ _ _ _ _ (by rfl) (by rfl) (by rfl) _ _ _ _ r k i j hr
  unfold kernelRun0_A.sl.v304 kernelRun0_A.sl.cst_53
  pointwise

/-- The hidden layer at row `32 i + j`. -/
theorem h_at (r : Fin 800) (o : Fin 256) (i j : Fin 25) (hr : r.val = 32 * i.val + j.val) :
    (kernelRun0_A.sl.r_7 (F := Ideal) c a1 h1 a2 h2 a3 h3 a4 h4 a5 h5 a7 h7 a8 h8 a9 h9 a10 h10 a11 h11 a12 h12 a15 a16 x0 x1 x2 x3 x4 x6 x7 x8 x9 x10 x11) (ix2 r o) = hidB x0 x1 x2 x3 x4 x6 x7 x8 x9 x10 x11 o i j := by
  unfold kernelRun0_A.sl.r_7 k0_pay55
  rw [View.readAt_eq_ld a5.view, View.readAt_eq_ld a11.view, View.readAt_eq_ld a12.view, h5.read_unread, h11.read_unread, h12.read_unread]
  dsimp only
  refine max_two ?_ (by pointwise)
  refine Ideal.add_congr (Ideal.mul_congr ((mm800 _ _ r o).trans (Finset.sum_congr rfl fun k _ => Ideal.mul_congr ?_ (by pointwise))) ?_) (by pointwise)
  · exact Ideal.add_congr (Ideal.add_congr (Ideal.add_congr (f_21 c a1 h1 a2 h2 a3 h3 a4 h4 a7 h7 a8 h8 a9 h9 a10 h10 a15 a16 x0 x1 x2 x3 x6 x7 x8 x9 r k i j hr) (f_tap c a1 h1 a2 h2 a3 h3 a4 h4 a7 h7 a8 h8 a9 h9 a10 h10 a15 a16 x0 x1 x2 x3 x6 x7 x8 x9 4 2 _ _ _ (by rfl) (by rfl) (by rfl) _ _ _ _ r k i j hr)) (f_tap c a1 h1 a2 h2 a3 h3 a4 h4 a7 h7 a8 h8 a9 h9 a10 h10 a15 a16 x0 x1 x2 x3 x6 x7 x8 x9 4 3 _ _ _ (by rfl) (by rfl) (by rfl) _ _ _ _ r k i j hr)) (f_tap c a1 h1 a2 h2 a3 h3 a4 h4 a7 h7 a8 h8 a9 h9 a10 h10 a15 a16 x0 x1 x2 x3 x6 x7 x8 x9 4 4 _ _ _ (by rfl) (by rfl) (by rfl) _ _ _ _ r k i j hr)
  · rw [← named_kap]
    pointwise

/-- The output before the decode at row `32 i + j`. -/
theorem out_at (r : Fin 800) (o : Fin 18) (i j : Fin 25) (hr : r.val = 32 * i.val + j.val) :
    (kernelRun0_A.sl.v481 (F := Ideal) c a1 h1 a2 h2 a3 h3 a4 h4 a5 h5 a6 h6 a7 h7 a8 h8 a9 h9 a10 h10 a11 h11 a12 h12 a13 h13 a15 a16 x0 x1 x2 x3 x4 x5 x6 x7 x8 x9 x10 x11 x12) (ix2 r o) = outB x0 x1 x2 x3 x4 x5 x6 x7 x8 x9 x10 x11 x12 o i j := by
  unfold kernelRun0_A.sl.v481 kernelRun0_A.sl.v476 kernelRun0_A.sl.v480 kernelRun0_A.sl.v479 kernelRun0_A.sl.v478 kernelRun0_A.sl.r_8 k0_pay56
  rw [View.readAt_eq_ld a6.view, View.readAt_eq_ld a13.view, h6.read_unread, h13.read_unread]
  refine Ideal.add_congr ((mm18 _ _ r o).trans (Finset.sum_congr rfl fun k _ => Ideal.mul_congr (h_at c a1 h1 a2 h2 a3 h3 a4 h4 a5 h5 a7 h7 a8 h8 a9 h9 a10 h10 a11 h11 a12 h12 a15 a16 x0 x1 x2 x3 x4 x6 x7 x8 x9 x10 x11 r k i j hr) (by pointwise))) (by pointwise)

end Cert.Head

end
-- ==== Proof.Dec.lean ====
module

public import proofs.«01_k».proof.Proof.Hid

@[expose] public section

set_option maxRecDepth 16384

noncomputable section

namespace Cert.Head

open Idealize.ShloMosaic Idealize.ShloMosaic.TcCoe Idealize.SL.Sem Cert.KernelIdeal Cert.KernelIdeal.Gen

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16)
  (a16 : Memref sig .tc .vmem S5x928x256 .f32)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- The column word of a row: the row's remainder by 32. -/
theorem v499_at (r : Fin 800) (q : Fin 18) : kernelRun0_A.sl.v499 (ix2 r q) = BitVec.ofNat 32 (r.val % 32) := by
  unfold kernelRun0_A.sl.v499 kernelRun0_A.sl.v498 kernelRun0_A.sl.v495 kernelRun0_A.sl.v493 kernelRun0_A.sl.v491 kernelRun0_A.sl.v489 kernelRun0_A.sl.v488 kernelRun0_A.sl.v486 kernelRun0_A.sl.v482
  pointwise
  revert r
  decide +kernel

/-- The row word of a row: the row's quotient by 32. -/
theorem v524_at (r : Fin 800) (q : Fin 18) : kernelRun0_A.sl.v524 (ix2 r q) = BitVec.ofNat 32 (r.val / 32) := by
  unfold kernelRun0_A.sl.v524 kernelRun0_A.sl.v523 kernelRun0_A.sl.v516 kernelRun0_A.sl.v515 kernelRun0_A.sl.v508 kernelRun0_A.sl.v505 kernelRun0_A.sl.v489 kernelRun0_A.sl.v488 kernelRun0_A.sl.v486 kernelRun0_A.sl.v482
  pointwise
  revert r
  decide +kernel

/-- The anchor word of a column: the column's quotient by 6. -/
theorem v549_at (r : Fin 800) (q : Fin 18) : kernelRun0_A.sl.v549 (ix2 r q) = BitVec.ofNat 32 (q.val / 6) := by
  unfold kernelRun0_A.sl.v549 kernelRun0_A.sl.v548 kernelRun0_A.sl.v545 kernelRun0_A.sl.v541 kernelRun0_A.sl.v533 kernelRun0_A.sl.v530 kernelRun0_A.sl.v526 kernelRun0_A.sl.v515 kernelRun0_A.sl.v488 kernelRun0_A.sl.v483
  pointwise
  revert q
  decide +kernel

/-- The kind word of a column: the column's remainder by 6. -/
theorem v565_at (r : Fin 800) (q : Fin 18) : kernelRun0_A.sl.v565 (ix2 r q) = BitVec.ofNat 32 (q.val % 6) := by
  unfold kernelRun0_A.sl.v565 kernelRun0_A.sl.v564 kernelRun0_A.sl.v561 kernelRun0_A.sl.v557 kernelRun0_A.sl.v545 kernelRun0_A.sl.v526 kernelRun0_A.sl.v493 kernelRun0_A.sl.v488 kernelRun0_A.sl.v483
  pointwise
  revert q
  decide +kernel

/-- A choice on two small words being equal is the choice on their numbers being equal. -/
theorem sel_eq {α : Type} (m n : ℕ) (hm : m < 64) (hn : n < 64) (A B : α) :
    Scalar.select (IntOp.cmpi .eq (BitVec.ofNat 32 m) (BitVec.ofNat 32 n)) A B = if m = n then A else B := by
  have key : ∀ m n : Fin 64, (IntOp.cmpi .eq (BitVec.ofNat 32 m.val) (BitVec.ofNat 32 n.val) = 1) ↔ m.val = n.val := by
    decide +kernel
  exact if_congr (key ⟨m, hm⟩ ⟨n, hn⟩) rfl rfl

/-- The number of a small word. -/
theorem float_word (n : ℕ) (hn : n < 64) : (FloatOps.sitofp .f32 (BitVec.ofNat 32 n) : Ideal .f32) = ((n : ℝ) : EReal) := by
  have key : ∀ n : Fin 64, (BitVec.ofNat 32 n.val).toInt = (n.val : ℤ) := by decide +kernel
  have e := key ⟨n, hn⟩
  show (((BitVec.ofNat 32 n).toInt : ℝ) : EReal) = _
  rw [show (BitVec.ofNat 32 n).toInt = (n : ℤ) from e, Int.cast_natCast]

/-- The decode at row `32 i + j` and column `6 a + q`. -/
theorem dec_at (r : Fin 800) (p : Fin 18) (i j : Fin 25) (a : Fin 3) (q : Fin 6) (hr : r.val = 32 * i.val + j.val)
    (hp : p.val = 6 * a.val + q.val) :
    (kernelRun0_A.sl.v605 (F := Ideal) c a1 h1 a2 h2 a3 h3 a4 h4 a5 h5 a6 h6 a7 h7 a8 h8 a9 h9 a10 h10 a11 h11 a12 h12 a13 h13 a15 a16 x0 x1 x2 x3 x4 x5 x6 x7 x8 x9 x10 x11 x12) (ix2 r p) = decF a q i j (outB x0 x1 x2 x3 x4 x5 x6 x7 x8 x9 x10 x11 x12 p i j) := by
  have ej : r.val % 32 = j.val := by omega
  have ei : r.val / 32 = i.val := by omega
  have ea : p.val / 6 = a.val := by omega
  have eq : p.val % 6 = q.val := by omega
  unfold kernelRun0_A.sl.v605 kernelRun0_A.sl.v604 kernelRun0_A.sl.v603 kernelRun0_A.sl.v602 kernelRun0_A.sl.v601 kernelRun0_A.sl.v599 kernelRun0_A.sl.v598 kernelRun0_A.sl.v596 kernelRun0_A.sl.v595 kernelRun0_A.sl.v593 kernelRun0_A.sl.v590 kernelRun0_A.sl.v589 kernelRun0_A.sl.v588 kernelRun0_A.sl.v585 kernelRun0_A.sl.v584 kernelRun0_A.sl.v583 kernelRun0_A.sl.v582 kernelRun0_A.sl.v581 kernelRun0_A.sl.v580 kernelRun0_A.sl.v579 kernelRun0_A.sl.v574 kernelRun0_A.sl.v573 kernelRun0_A.sl.v572 kernelRun0_A.sl.v571 kernelRun0_A.sl.v570 kernelRun0_A.sl.v525 kernelRun0_A.sl.v500 kernelRun0_A.sl.v488 kernelRun0_A.sl.v515 kernelRun0_A.sl.cst_311 kernelRun0_A.sl.cst_312 kernelRun0_A.sl.cst_313 kernelRun0_A.sl.cst_316 kernelRun0_A.sl.cst_317 kernelRun0_A.sl.cst_318 kernelRun0_A.sl.cst_320
  pointwise
  rw [v565_at, v549_at, v499_at, v524_at, out_at c a1 h1 a2 h2 a3 h3 a4 h4 a5 h5 a6 h6 a7 h7 a8 h8 a9 h9 a10 h10 a11 h11 a12 h12 a13 h13 a15 a16 x0 x1 x2 x3 x4 x5 x6 x7 x8 x9 x10 x11 x12 r p i j hr, ej, ei, ea, eq, float_word _ (by omega), float_word _ (by omega)]
  rw [show (0#32) = BitVec.ofNat 32 0 from rfl, show (1#32) = BitVec.ofNat 32 1 from rfl, show (2#32) = BitVec.ofNat 32 2 from rfl,
    show (3#32) = BitVec.ofNat 32 3 from rfl]
  rw [sel_eq _ _ (by omega) (by omega), sel_eq _ _ (by omega) (by omega), sel_eq _ _ (by omega) (by omega), sel_eq _ _ (by omega) (by omega),
    sel_eq _ _ (by omega) (by omega), sel_eq _ _ (by omega) (by omega), sel_eq _ _ (by omega) (by omega), sel_eq _ _ (by omega) (by omega)]
  rfl

/-- A window of 25 rows of one anchor's columns, as a slab, read at an element. -/
theorem slab_at {α : Type} (A : S800x18.Idx → α) (o p : ℕ) (h1) (h2) (h3) (t : Fin 25) (q : Fin 6) (r : Fin 800) (s : Fin 18)
    (hr : r.val = o + t.val) (hs : s.val = p + q.val) :
    shapeCast S1x25x6 (extractStridedSlice S25x6 ![o, 0] (extractStridedSlice S800x6 ![0, p] A h1) h2) h3 (ix3 0 t q)
      = A (ix2 r s) := by
  refine Eq.trans (b := extractStridedSlice S25x6 ![o, 0] (extractStridedSlice S800x6 ![0, p] A h1) h2 (ix2 t q)) (by pointwise) ?_
  refine (extractStridedSlice_apply ![o, 0] _ h2 (ix2 t q) (ix2 r q) ?_).trans
    (extractStridedSlice_apply ![0, p] A h1 (ix2 r q) (ix2 r s) ?_)
  · intro a
    match a with
    | ⟨0, _⟩ => exact hr
    | ⟨1, _⟩ => exact (Nat.zero_add _).symm
  · intro a
    match a with
    | ⟨0, _⟩ => exact (Nat.zero_add _).symm
    | ⟨1, _⟩ => exact hs

/-- A slab of the decode is the predictions of its rows. -/
theorem slab_dec (a : Fin 3) (i : Fin 25) (o p : ℕ) (ho : o = 32 * i.val) (hp : p = 6 * a.val) (e1) (e2) (e3) (t : Fin 25) (q : Fin 6) (y : Fin 1875)
    (hy : y.val = 625 * a.val + 25 * i.val + t.val) :
    shapeCast S1x25x6 (extractStridedSlice S25x6 ![o, 0] (extractStridedSlice S800x6 ![0, p] (kernelRun0_A.sl.v605 (F := Ideal) c a1 h1 a2 h2 a3 h3 a4 h4 a5 h5 a6 h6 a7 h7 a8 h8 a9 h9 a10 h10 a11 h11 a12 h12 a13 h13 a15 a16 x0 x1 x2 x3 x4 x5 x6 x7 x8 x9 x10 x11 x12) e1) e2) e3 (ix3 0 t q)
      = predF (outB x0 x1 x2 x3 x4 x5 x6 x7 x8 x9 x10 x11 x12) y q := by
  refine (slab_at _ o p e1 e2 e3 t q ⟨32 * i.val + t.val, by omega⟩ ⟨6 * a.val + q.val, by omega⟩ (by simp [ho]) (by simp [hp])).trans ?_
  refine (dec_at c a1 h1 a2 h2 a3 h3 a4 h4 a5 h5 a6 h6 a7 h7 a8 h8 a9 h9 a10 h10 a11 h11 a12 h12 a13 h13 a15 a16 x0 x1 x2 x3 x4 x5 x6 x7 x8 x9 x10 x11 x12 _ _ i t a q rfl rfl).trans ?_
  have ea : (⟨y.val / 625, by omega⟩ : Fin 3) = a := Fin.ext (by show y.val / 625 = a.val; omega)
  have ei : (⟨y.val / 25 % 25, by omega⟩ : Fin 25) = i := Fin.ext (by show y.val / 25 % 25 = i.val; omega)
  have ej : (⟨y.val % 25, by omega⟩ : Fin 25) = t := Fin.ext (by show y.val % 25 = t.val; omega)
  have ep : (⟨6 * (y.val / 625) + q.val, by omega⟩ : Fin 18) = ⟨6 * a.val + q.val, by omega⟩ :=
    Fin.ext (by show 6 * (y.val / 625) + q.val = 6 * a.val + q.val; omega)
  unfold predF
  rw [ea, ei, ej, ep]

end Cert.Head

end
-- ==== Proof.Out.lean ====
module

public import proofs.«01_k».proof.Proof.Dec
public import proofs.«01_k».proof.Proof.Gen.KernelIdeal.Frame

@[expose] public section

set_option maxRecDepth 16384

noncomputable section

namespace Cert.Head

open Idealize.ShloMosaic Idealize.ShloMosaic.TcCoe Idealize.SL.Sem Cert.KernelIdeal Cert.KernelIdeal.Gen

variable (c : Dev nD)
  (a1 : Memref sig .tc .vmem S1x256x49 .f32) (h1 : a1.IsWhole)
  (a2 : Memref sig .tc .vmem S1x256x961 .f32) (h2 : a2.IsWhole)
  (a3 : Memref sig .tc .vmem S3x3x256x256 .bf16) (h3 : a3.IsWhole)
  (a4 : Memref sig .tc .vmem S3x3x256x256 .bf16) (h4 : a4.IsWhole)
  (a5 : Memref sig .tc .vmem S256x256 .bf16) (h5 : a5.IsWhole)
  (a6 : Memref sig .tc .vmem S256x18 .bf16) (h6 : a6.IsWhole)
  (a7 : Memref sig .tc .vmem S1x256 .f32) (h7 : a7.IsWhole)
  (a8 : Memref sig .tc .vmem S1x256 .f32) (h8 : a8.IsWhole)
  (a9 : Memref sig .tc .vmem S1x256 .f32) (h9 : a9.IsWhole)
  (a10 : Memref sig .tc .vmem S1x256 .f32) (h10 : a10.IsWhole)
  (a11 : Memref sig .tc .vmem S1x256 .f32) (h11 : a11.IsWhole)
  (a12 : Memref sig .tc .vmem S1x256 .f32) (h12 : a12.IsWhole)
  (a13 : Memref sig .tc .vmem S1x18 .f32) (h13 : a13.IsWhole)
  (a14 : Memref sig .tc .vmem S1x1875x6 .f32) (h14 : a14.IsWhole)
  (a15 : Memref sig .tc .vmem S3x1024x256 .bf16) (h15 : a15.IsWhole)
  (a16 : Memref sig .tc .vmem S5x928x256 .f32) (h16 : a16.IsWhole)
  (x0 : FVec Ideal S1x256x49 .f32)
  (x1 : FVec Ideal S1x256x961 .f32)
  (x2 : FVec Ideal S3x3x256x256 .bf16)
  (x3 : FVec Ideal S3x3x256x256 .bf16)
  (x4 : FVec Ideal S256x256 .bf16)
  (x5 : FVec Ideal S256x18 .bf16)
  (x6 : FVec Ideal S1x256 .f32)
  (x7 : FVec Ideal S1x256 .f32)
  (x8 : FVec Ideal S1x256 .f32)
  (x9 : FVec Ideal S1x256 .f32)
  (x10 : FVec Ideal S1x256 .f32)
  (x11 : FVec Ideal S1x256 .f32)
  (x12 : FVec Ideal S1x18 .f32)

/-- The block's result: the predictions, row by row. -/
def resB (y : S1x1875x6.Idx) : EReal := predF (outB x0 x1 x2 x3 x4 x5 x6 x7 x8 x9 x10 x11 x12) (y 1) (y 2)

/-- A slab of the decode is the block's result at its rows, index by index. -/
theorem slab_dec' (a : Fin 3) (i : Fin 25) (o p : ℕ) (ho : o = 32 * i.val) (hp : p = 6 * a.val) (e1) (e2) (e3) (x : S1x25x6.Idx) (b : Fin 1) (y : Fin 1875)
    (q : Fin 6) (hy : y.val = 625 * a.val + 25 * i.val + (x 1).val) (hq : q.val = (x 2).val) :
    shapeCast S1x25x6 (extractStridedSlice S25x6 ![o, 0] (extractStridedSlice S800x6 ![0, p] (kernelRun0_A.sl.v605 (F := Ideal) c a1 h1 a2 h2 a3 h3 a4 h4 a5 h5 a6 h6 a7 h7 a8 h8 a9 h9 a10 h10 a11 h11 a12 h12 a13 h13 a15 a16 x0 x1 x2 x3 x4 x5 x6 x7 x8 x9 x10 x11 x12) e1) e2) e3 x
      = resB x0 x1 x2 x3 x4 x5 x6 x7 x8 x9 x10 x11 x12 (ix3 b y q) := by
  have hx : x = ix3 0 (x 1) (x 2) := by
    funext a
    match a with
    | ⟨0, _⟩ => exact Subsingleton.elim (α := Fin 1) _ _
    | ⟨1, _⟩ => rfl
    | ⟨2, _⟩ => rfl
  have hq' : q = x 2 := Fin.ext hq
  rw [hx, hq']
  exact slab_dec c a1 h1 a2 h2 a3 h3 a4 h4 a5 h5 a6 h6 a7 h7 a8 h8 a9 h9 a10 h10 a11 h11 a12 h12 a13 h13 a15 a16 x0 x1 x2 x3 x4 x5 x6 x7 x8 x9 x10 x11 x12 a i o p ho hp e1 e2 e3 (x 1) (x 2) y hy

/-- A piece is good when it holds the function `G` at each of its places. -/
def Good (G : S1x1875x6.Idx → EReal) (p : View.Piece (Elt Ideal) S1x1875x6 .f32) : Prop :=
  ∀ x : p.1.shape.Idx, p.2 x = G (p.1.emb x)

/-- A piece whose payload is the result at its rows is the result through its rectangle. -/
theorem good_piece (o : ℕ) (hin) (P : FVec Ideal S1x25x6 .f32) (G : S1x1875x6.Idx → EReal)
    (h : ∀ (x : S1x25x6.Idx) (b : Fin 1) (y : Fin 1875) (q : Fin 6), y.val = o + (x 1).val → q.val = (x 2).val → P x = G (ix3 b y q))
    : Good G ⟨Rect.unit ![0, o, 0] ![1, 25, 6] hin, P⟩ := by
  intro x
  refine (h x ((Rect.unit (s := S1x1875x6) ![0, o, 0] ![1, 25, 6] hin).emb x 0) ((Rect.unit (s := S1x1875x6) ![0, o, 0] ![1, 25, 6] hin).emb x 1)
    ((Rect.unit (s := S1x1875x6) ![0, o, 0] ![1, 25, 6] hin).emb x 2) ?_ ?_).trans (congrArg G (eq_ix3 _).symm)
  · show o + 1 * (x 1).val = _
    rw [Nat.one_mul]
  · show 0 + 1 * (x 2).val = _
    rw [Nat.one_mul, Nat.zero_add]

/-- A list of good pieces stays good when a good piece is put before it. -/
theorem good_cons {G : S1x1875x6.Idx → EReal} {p : View.Piece (Elt Ideal) S1x1875x6 .f32} {L : List (View.Piece (Elt Ideal) S1x1875x6 .f32)}
    (hp : Good G p) (hL : ∀ q ∈ L, Good G q) : ∀ q ∈ p :: L, Good G q :=
  List.forall_mem_cons.mpr ⟨hp, hL⟩

/-- A piece that stores 25 rows of the decode, cut out at row `o` and column `p`, at row `w` of the block is good: the
    anchor is `p / 6`, the grid row `o / 32`. -/
theorem good_slab (w o p : ℕ) (hin) (e1) (e2) (e3) (hp : p / 6 < 3) (ho : o / 32 < 25) (hp' : p = 6 * (p / 6)) (ho' : o = 32 * (o / 32))
    (hw : w = 625 * (p / 6) + 25 * (o / 32)) :
    Good (resB x0 x1 x2 x3 x4 x5 x6 x7 x8 x9 x10 x11 x12) ⟨Rect.unit ![0, w, 0] ![1, 25, 6] hin,
      shapeCast S1x25x6 (extractStridedSlice S25x6 ![o, 0] (extractStridedSlice S800x6 ![0, p] (kernelRun0_A.sl.v605 (F := Ideal) c a1 h1 a2 h2 a3 h3 a4 h4 a5 h5 a6 h6 a7 h7 a8 h8 a9 h9 a10 h10 a11 h11 a12 h12 a13 h13 a15 a16 x0 x1 x2 x3 x4 x5 x6 x7 x8 x9 x10 x11 x12) e1) e2) e3⟩ :=
  good_piece w hin _ _ fun x b y q hy hq =>
    slab_dec' c a1 h1 a2 h2 a3 h3 a4 h4 a5 h5 a6 h6 a7 h7 a8 h8 a9 h9 a10 h10 a11 h11 a12 h12 a13 h13 a15 a16 x0 x1 x2 x3 x4 x5 x6 x7 x8 x9 x10 x11 x12 ⟨p / 6, hp⟩ ⟨o / 32, ho⟩ o p ho' hp' e1 e2 e3 x b y q (hy.trans (by rw [hw])) hq

set_option maxHeartbeats 2000000 in
/-- What the body leaves in the output's block: the predictions. -/
theorem out_block (i : grid0.Coords) :
    out0_A_13 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 = resB x0 x1 x2 x3 x4 x5 x6 x7 x8 x9 x10 x11 x12 := by
  funext y
  unfold out0_A_13
  rw [View.read_writes_junk_eq_canon]
  have hc := cover0_A_13 (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12 y
  revert hc
  generalize hL : (kernelRun0_A (F := Ideal) c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 x10 x11 x12).1 = L
  intro hc
  refine View.canon_apply_of_pieces (Val := Elt Ideal) (e := .f32) (resB x0 x1 x2 x3 x4 x5 x6 x7 x8 x9 x10 x11 x12) L ?_ y hc
  show ∀ q ∈ L, Good (resB x0 x1 x2 x3 x4 x5 x6 x7 x8 x9 x10 x11 x12) q
  rw [← hL]
  unfold kernelRun0_A
  dsimp only
  iterate 75
    refine good_cons ?_ ?_
    · exact good_slab c a1 h1 a2 h2 a3 h3 a4 h4 a5 h5 a6 h6 a7 h7 a8 h8 a9 h9 a10 h10 a11 h11 a12 h12 a13 h13 a15 a16 x0 x1 x2 x3 x4 x5 x6 x7 x8 x9 x10 x11 x12 _ _ _ _ (by decide) (by decide) (by decide) (by decide) (by decide) (by decide) (by decide) (by decide)
  exact fun p hp => absurd hp (List.not_mem_nil)

end Cert.Head

end
-- ==== Proof.Ans.lean ====
module

public import proofs.«01_k».proof.Proof.Spec

@[expose] public section

set_option maxRecDepth 16384

noncomputable section

namespace Cert.Head

open Idealize.ShloMosaic

variable (z : (⟨4, ![16, 256, 7, 7]⟩ : Shape).Idx → EReal)
  (x : (⟨4, ![16, 256, 31, 31]⟩ : Shape).Idx → EReal)
  (wk : (⟨4, ![256, 256, 3, 3]⟩ : Shape).Idx → EReal)
  (g1 : (⟨1, ![256]⟩ : Shape).Idx → EReal)
  (b1 : (⟨1, ![256]⟩ : Shape).Idx → EReal)
  (ws : (⟨4, ![256, 256, 3, 3]⟩ : Shape).Idx → EReal)
  (g2 : (⟨1, ![256]⟩ : Shape).Idx → EReal)
  (b2 : (⟨1, ![256]⟩ : Shape).Idx → EReal)
  (wh : (⟨4, ![256, 256, 1, 1]⟩ : Shape).Idx → EReal)
  (g3 : (⟨1, ![256]⟩ : Shape).Idx → EReal)
  (b3 : (⟨1, ![256]⟩ : Shape).Idx → EReal)
  (wo : (⟨4, ![18, 256, 1, 1]⟩ : Shape).Idx → EReal)
  (bo : (⟨1, ![18]⟩ : Shape).Idx → EReal)

/-- The template's features of batch entry `n`, from the arguments. -/
def kernA (n : Fin 16) : Fin 256 → Fin 5 → Fin 5 → EReal :=
  kernF (fun k i j => z (ix4 n k i j)) (fun o d e k => wk (ix4 o k d e)) (fun o => g1 (ix1 o)) (fun o => b1 (ix1 o))

/-- The search image's features of batch entry `n`, from the arguments. -/
def srchA (n : Fin 16) : Fin 256 → Fin 29 → Fin 29 → EReal :=
  srchF (fun k i j => x (ix4 n k i j)) (fun o d e k => ws (ix4 o k d e)) (fun o => g2 (ix1 o)) (fun o => b2 (ix1 o))

/-- The hidden layer of batch entry `n`, from the arguments. -/
def hidA (n : Fin 16) : Fin 256 → Fin 25 → Fin 25 → EReal :=
  hidF (srchA x ws g2 b2 n) (kernA z wk g1 b1 n) (fun o k => wh (ix4 o k 0 0)) (fun o => g3 (ix1 o)) (fun o => b3 (ix1 o))

/-- The head's output of batch entry `n` before the decode, from the arguments. -/
def outA (n : Fin 16) : Fin 18 → Fin 25 → Fin 25 → EReal :=
  outF (hidA z x wk g1 b1 ws g2 b2 wh g3 b3 n) (fun o k => wo (ix4 o k 0 0)) (fun o => bo (ix1 o))

/-- The result: the predictions of every batch entry. -/
def ansA : (⟨3, ![16, 1875, 6]⟩ : Shape).Idx → EReal := fun y => predF (outA z x wk g1 b1 ws g2 b2 wh g3 b3 wo bo (y 0)) (y 1) (y 2)

end Cert.Head

end
-- ==== Proof.Bridge.lean ====
module

public import proofs.«01_k».proof.Proof.Out
public import proofs.«01_k».proof.Proof.Ans
public import Idealize.ShloMosaic.Lib.Pipeline.ValueKit

@[expose] public section

set_option maxRecDepth 16384

noncomputable section

namespace Cert.Head

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD) (t : Fin cfg0.N)

/-- The windows' index maps: the images and the result move with the grid point, the weights and rows stay. -/
theorem idx : ∀ t : Fin cfg0.N, win0_0.index t = ![t.val, 0, 0] ∧ win0_1.index t = ![t.val, 0, 0] ∧ win0_2.index t = ![0, 0, 0, 0] ∧ win0_3.index t = ![0, 0, 0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0, 0] :=
  (by decide +kernel : ∀ t : Fin grid0.N, _)

/-- The template's block at a grid point is the batch entry, flattened. -/
theorem in_0 (n : Fin 16) (hn : n.val = t.val) (k : Fin 256) (i j : Fin 7) :
    (iblk m c 0 t : FVec Ideal S1x256x49 .f32) (ix3 0 k ⟨7 * i.val + j.val, by omega⟩) = (m ((c : Thread nD τ).loc main_arg0)) (ix4 n k i j) := by
  blk_simp [iblk]
  entry_read
  pointwise
  blk_ext [idx t]

/-- The search image's block at a grid point is the batch entry, flattened. -/
theorem in_1 (n : Fin 16) (hn : n.val = t.val) (k : Fin 256) (i j : Fin 31) :
    (iblk m c 1 t : FVec Ideal S1x256x961 .f32) (ix3 0 k ⟨31 * i.val + j.val, by omega⟩) = (m ((c : Thread nD τ).loc main_arg1)) (ix4 n k i j) := by
  blk_simp [iblk]
  entry_read
  pointwise
  blk_ext [idx t]

/-- The block of 3 × 3 weights is the whole array, its axes permuted. -/
theorem in_2 (d e : Fin 3) (k o : Fin 256) :
    (iblk m c 2 t : FVec Ideal S3x3x256x256 .bf16) (ix4 d e k o) = (m ((c : Thread nD τ).loc main_arg2)) (ix4 o k d e) := by
  blk_simp [iblk]
  entry_read
  pointwise
  blk_ext [idx t]

/-- The block of 3 × 3 weights is the whole array, its axes permuted. -/
theorem in_3 (d e : Fin 3) (k o : Fin 256) :
    (iblk m c 3 t : FVec Ideal S3x3x256x256 .bf16) (ix4 d e k o) = (m ((c : Thread nD τ).loc main_arg5)) (ix4 o k d e) := by
  blk_simp [iblk]
  entry_read
  pointwise
  blk_ext [idx t]

/-- The block of 1 × 1 weights is the whole array, transposed. -/
theorem in_4 (k : Fin 256) (o : Fin 256) :
    (iblk m c 4 t : FVec Ideal S256x256 .bf16) (ix2 k o) = (m ((c : Thread nD τ).loc main_arg8)) (ix4 o k 0 0) := by
  blk_simp [iblk]
  entry_read
  pointwise
  blk_ext [idx t]

/-- The block of 1 × 1 weights is the whole array, transposed. -/
theorem in_5 (k : Fin 256) (o : Fin 18) :
    (iblk m c 5 t : FVec Ideal S256x18 .bf16) (ix2 k o) = (m ((c : Thread nD τ).loc main_arg11)) (ix4 o k 0 0) := by
  blk_simp [iblk]
  entry_read
  pointwise
  blk_ext [idx t]

/-- The block of a row is the argument's vector. -/
theorem in_6 (o : Fin 256) :
    (iblk m c 6 t : FVec Ideal S1x256 .f32) (ix2 0 o) = (m ((c : Thread nD τ).loc main_arg3)) (ix1 o) := by
  blk_simp [iblk]
  entry_read
  pointwise
  blk_ext [idx t]

/-- The block of a row is the argument's vector. -/
theorem in_7 (o : Fin 256) :
    (iblk m c 7 t : FVec Ideal S1x256 .f32) (ix2 0 o) = (m ((c : Thread nD τ).loc main_arg4)) (ix1 o) := by
  blk_simp [iblk]
  entry_read
  pointwise
  blk_ext [idx t]

/-- The block of a row is the argument's vector. -/
theorem in_8 (o : Fin 256) :
    (iblk m c 8 t : FVec Ideal S1x256 .f32) (ix2 0 o) = (m ((c : Thread nD τ).loc main_arg6)) (ix1 o) := by
  blk_simp [iblk]
  entry_read
  pointwise
  blk_ext [idx t]

/-- The block of a row is the argument's vector. -/
theorem in_9 (o : Fin 256) :
    (iblk m c 9 t : FVec Ideal S1x256 .f32) (ix2 0 o) = (m ((c : Thread nD τ).loc main_arg7)) (ix1 o) := by
  blk_simp [iblk]
  entry_read
  pointwise
  blk_ext [idx t]

/-- The block of a row is the argument's vector. -/
theorem in_10 (o : Fin 256) :
    (iblk m c 10 t : FVec Ideal S1x256 .f32) (ix2 0 o) = (m ((c : Thread nD τ).loc main_arg9)) (ix1 o) := by
  blk_simp [iblk]
  entry_read
  pointwise
  blk_ext [idx t]

/-- The block of a row is the argument's vector. -/
theorem in_11 (o : Fin 256) :
    (iblk m c 11 t : FVec Ideal S1x256 .f32) (ix2 0 o) = (m ((c : Thread nD τ).loc main_arg10)) (ix1 o) := by
  blk_simp [iblk]
  entry_read
  pointwise
  blk_ext [idx t]

/-- The block of a row is the argument's vector. -/
theorem in_12 (o : Fin 18) :
    (iblk m c 12 t : FVec Ideal S1x18 .f32) (ix2 0 o) = (m ((c : Thread nD τ).loc main_arg12)) (ix1 o) := by
  blk_simp [iblk]
  entry_read
  pointwise
  blk_ext [idx t]

/-- The block's output before the decode is the batch entry's. -/
theorem out_blk (n : Fin 16) (hn : n.val = t.val) :
    outB (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = outA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) n := by
  have e0 : zimg (iblk m c 0 t) = fun k i j => (m ((c : Thread nD τ).loc main_arg0)) (ix4 n k i j) := by
    funext k i j
    exact in_0 m c t n hn k i j
  have e1 : ximg (iblk m c 1 t) = fun k i j => (m ((c : Thread nD τ).loc main_arg1)) (ix4 n k i j) := by
    funext k i j
    exact in_1 m c t n hn k i j
  unfold outB outA hidB hidA srchB srchA kernB kernA
  rw [e0, e1]
  simp only [in_2 m c t, in_3 m c t, in_4 m c t, in_5 m c t, in_6 m c t, in_7 m c t, in_8 m c t, in_9 m c t, in_10 m c t, in_11 m c t, in_12 m c t]

/-- The result array after the run holds the predictions. -/
theorem result : (dats m 0 c).arrAt 13 cfg0.N = ansA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 13 _ (by decide +kernel) fun t hf y => ?_
  blk_simp
  rw [after0_13]
  unfold outsAt0
  rw [out_block]
  have hN : t.val < 16 := t.isLt
  unfold resB ansA
  rw [out_blk m c t ⟨t.val, hN⟩ rfl]
  have h0 : (win0_13.blk t).view.emb y 0 = (⟨t.val, hN⟩ : Fin 16) := by
    refine Fin.ext ?_
    blk_simp [idx t]
  have h1 : (win0_13.blk t).view.emb y 1 = y 1 := by
    refine Fin.ext ?_
    blk_simp [idx t]
  have h2 : (win0_13.blk t).view.emb y 2 = y 2 := by
    refine Fin.ext ?_
    blk_simp [idx t]
  show _ = predF (outA _ _ _ _ _ _ _ _ _ _ _ _ _ ((win0_13.blk t).view.emb y 0)) ((win0_13.blk t).view.emb y 1) ((win0_13.blk t).view.emb y 2)
  rw [h0, h1, h2]

end Cert.Head

end
-- ==== Proof.Ref1.lean ====
module

public import proofs.«01_k».proof.Proof.Spec
public import proofs.«01_k».proof.Proof.Gen.ReferenceIdeal.Read

@[expose] public section

set_option maxRecDepth 16384

noncomputable section

namespace Cert.Head

open Idealize.ShloMosaic Idealize.ShloMosaic.TcCoe Cert.ReferenceIdeal Cert.ReferenceIdeal.Gen Cert.ReferenceIdeal.Read

/-- The reference's normalization divides by the square root of this word. -/
theorem bn_word : Ideal.ofBits .f32 0x3F800054#32 = ((2097173 / 2097152 : ℝ) : EReal) := by
  simp [Ideal.ofBits, Ideal.ieee, -EReal.coe_mul]
  norm_num

/-- Dividing by the square root is multiplying with the normalization's constant. -/
theorem div_bn (v : EReal) : Ideal.div v (id (Host.sqrt (F := Ideal) (constant (F := Ideal) S_ .f32 0x3F800054#32)) ix0) = v * kap := by
  have hp : (0 : ℝ) < Real.sqrt (2097173 / 2097152) := Real.sqrt_pos.mpr (by norm_num)
  have e : (id (Host.sqrt (F := Ideal) (constant (F := Ideal) S_ .f32 0x3F800054#32)) ix0 : EReal) = ((Real.sqrt (2097173 / 2097152) : ℝ) : EReal) := by
    show Ideal.sqrt (Ideal.ofBits .f32 0x3F800054#32) = _
    rw [bn_word, Ideal.sqrt_coe, if_neg (by norm_num)]
  rw [e, Ideal.div_coe hp.ne', one_div]
  rfl

/-- The reference's normalization and rectifier are the specification's. -/
theorem bn_act (v g b : EReal) :
    max (Ideal.div v (id (Host.sqrt (F := Ideal) (constant (F := Ideal) S_ .f32 0x3F800054#32)) ix0) * g + b) 0 = act v g b := by
  rw [div_bn, mul_assoc, mul_comm kap g]
  rfl

/-- One tap of the reference's convolution of the template. -/
theorem r_tap5 (X : FVec Ideal S16x256x7x7 .f32) (W : FVec Ideal S256x256x3x3 .f32) (d e : Fin 3) (h1) (h2) (h3) (h4) (n : Fin 16) (o : Fin 256) (i j : Fin 5) :
    transpose S16x256x5x5 [1, 0, 2, 3] (Host.dotGeneral (F := Ideal) dot_S256x256_S16x256x5x5_S256x16x5x5_1_1_0_023_n_n none
      (shapeCast S256x256 (extractStridedSlice S256x256x1x1 ![0, 0, d.val, e.val] W h1) h3) (extractStridedSlice S16x256x5x5 ![0, 0, d.val, e.val] X h2)) h4 (ix4 n o i j)
    = tap 5 (fun k i j => X (ix4 n k i j)) (fun d e k => W (ix4 o k d e)) d e i j := by
  pointwise
  unfold tap
  refine Finset.sum_congr rfl fun k _ => ?_
  rw [mul_comm]
  exact Ideal.mul_congr (congrArg X (congrArg₂ (ix4 n k) (Fin.ext (Nat.add_comm _ _)) (Fin.ext (Nat.add_comm _ _)))) rfl

/-- The reference's convolution of the template. -/
theorem r_conv5 (X : FVec Ideal S16x256x7x7 .f32) (W : FVec Ideal S256x256x3x3 .f32) (n : Fin 16) (o : Fin 256) (i j : Fin 5) :
    val_main_v52 (F := Ideal) X W (ix4 n o i j) = conv 5 (fun k i j => X (ix4 n k i j)) (fun d e k => W (ix4 o k d e)) i j :=
  congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (r_tap5 X W 0 0 _ _ _ _ n o i j) (r_tap5 X W 0 1 _ _ _ _ n o i j)) (r_tap5 X W 0 2 _ _ _ _ n o i j)) (r_tap5 X W 1 0 _ _ _ _ n o i j)) (r_tap5 X W 1 1 _ _ _ _ n o i j)) (r_tap5 X W 1 2 _ _ _ _ n o i j)) (r_tap5 X W 2 0 _ _ _ _ n o i j)) (r_tap5 X W 2 1 _ _ _ _ n o i j)) (r_tap5 X W 2 2 _ _ _ _ n o i j)

/-- The reference's features of the template. -/
theorem r_kernF (X : FVec Ideal S16x256x7x7 .f32) (W : FVec Ideal S256x256x3x3 .f32) (g b : FVec Ideal S256 .f32) (n : Fin 16) (o : Fin 256) (i j : Fin 5) :
    val_main_v63 (F := Ideal) X W g b (ix4 n o i j)
      = kernF (fun k i j => X (ix4 n k i j)) (fun o d e k => W (ix4 o k d e)) (fun o => g (ix1 o)) (fun o => b (ix1 o)) o i j := by
  pointwise [val_main_v63, val_main_v62, val_main_v59, val_main_v56, val_main_v55, val_main_v54, val_main_v53, val_main_cst, val_main_v58, val_main_v57, val_main_v61, val_main_v60, val_main_call0_v0, val_main_call0_cst]
  rw [r_conv5]
  exact bn_act _ _ _

/-- One tap of the reference's convolution of the search image. -/
theorem r_tap29 (X : FVec Ideal S16x256x31x31 .f32) (W : FVec Ideal S256x256x3x3 .f32) (d e : Fin 3) (h1) (h2) (h3) (h4) (n : Fin 16) (o : Fin 256) (i j : Fin 29) :
    transpose S16x256x29x29 [1, 0, 2, 3] (Host.dotGeneral (F := Ideal) dot_S256x256_S16x256x29x29_S256x16x29x29_1_1_0_023_n_n none
      (shapeCast S256x256 (extractStridedSlice S256x256x1x1 ![0, 0, d.val, e.val] W h1) h3) (extractStridedSlice S16x256x29x29 ![0, 0, d.val, e.val] X h2)) h4 (ix4 n o i j)
    = tap 29 (fun k i j => X (ix4 n k i j)) (fun d e k => W (ix4 o k d e)) d e i j := by
  pointwise
  unfold tap
  refine Finset.sum_congr rfl fun k _ => ?_
  rw [mul_comm]
  exact Ideal.mul_congr (congrArg X (congrArg₂ (ix4 n k) (Fin.ext (Nat.add_comm _ _)) (Fin.ext (Nat.add_comm _ _)))) rfl

/-- The reference's convolution of the search image. -/
theorem r_conv29 (X : FVec Ideal S16x256x31x31 .f32) (W : FVec Ideal S256x256x3x3 .f32) (n : Fin 16) (o : Fin 256) (i j : Fin 29) :
    val_main_v116 (F := Ideal) X W (ix4 n o i j) = conv 29 (fun k i j => X (ix4 n k i j)) (fun d e k => W (ix4 o k d e)) i j :=
  congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (r_tap29 X W 0 0 _ _ _ _ n o i j) (r_tap29 X W 0 1 _ _ _ _ n o i j)) (r_tap29 X W 0 2 _ _ _ _ n o i j)) (r_tap29 X W 1 0 _ _ _ _ n o i j)) (r_tap29 X W 1 1 _ _ _ _ n o i j)) (r_tap29 X W 1 2 _ _ _ _ n o i j)) (r_tap29 X W 2 0 _ _ _ _ n o i j)) (r_tap29 X W 2 1 _ _ _ _ n o i j)) (r_tap29 X W 2 2 _ _ _ _ n o i j)

/-- The reference's features of the search image. -/
theorem r_srchF (X : FVec Ideal S16x256x31x31 .f32) (W : FVec Ideal S256x256x3x3 .f32) (g b : FVec Ideal S256 .f32) (n : Fin 16) (o : Fin 256) (i j : Fin 29) :
    val_main_v127 (F := Ideal) X W g b (ix4 n o i j)
      = srchF (fun k i j => X (ix4 n k i j)) (fun o d e k => W (ix4 o k d e)) (fun o => g (ix1 o)) (fun o => b (ix1 o)) o i j := by
  pointwise [val_main_v127, val_main_v126, val_main_v123, val_main_v120, val_main_v119, val_main_v118, val_main_v117, val_main_cst_0, val_main_v122, val_main_v121, val_main_v125, val_main_v124, val_main_call1_v0, val_main_call1_cst]
  rw [r_conv29]
  exact bn_act _ _ _

end Cert.Head

end
-- ==== Proof.Ref2.lean ====
module

public import proofs.«01_k».proof.Proof.Ref1
public import proofs.«01_k».proof.Proof.Ans

@[expose] public section

set_option maxRecDepth 16384

noncomputable section

namespace Cert.Head

open Idealize.ShloMosaic Idealize.ShloMosaic.TcCoe Cert.ReferenceIdeal Cert.ReferenceIdeal.Gen Cert.ReferenceIdeal.Read

/-- One tap of the reference's correlation. -/
theorem r_xtap (S : FVec Ideal S16x256x29x29 .f32) (K : FVec Ideal S16x256x5x5 .f32) (d e : Fin 5) (h1) (h2) (n : Fin 16) (o : Fin 256) (i j : Fin 25) :
    mulf (extractStridedSlice S16x256x25x25 ![0, 0, d.val, e.val] S h1)
      (broadcastInDim S16x256x25x25 ![0, 1, 2, 3] bcast_S16x256x1x1_S16x256x25x25_0_1_2_3 (extractStridedSlice S16x256x1x1 ![0, 0, d.val, e.val] K h2)) (ix4 n o i j)
    = xtap (fun i j => S (ix4 n o i j)) (fun d e => K (ix4 n o d e)) d e i j := by
  pointwise
  unfold xtap
  exact Ideal.mul_congr (congrArg S (congrArg₂ (ix4 n o) (Fin.ext (Nat.add_comm _ _)) (Fin.ext (Nat.add_comm _ _)))) rfl

variable (x0 : FVec Ideal S16x256x7x7 .f32) (x1 : FVec Ideal S16x256x31x31 .f32) (x2 : FVec Ideal S256x256x3x3 .f32) (x3 x4 : FVec Ideal S256 .f32)
  (x5 : FVec Ideal S256x256x3x3 .f32) (x6 x7 : FVec Ideal S256 .f32) (x8 : FVec Ideal S256x256x1x1 .f32) (x9 x10 : FVec Ideal S256 .f32)
  (x11 : FVec Ideal S18x256x1x1 .f32) (x12 : FVec Ideal S18 .f32)

/-- The reference's correlation. -/
theorem r_xcorr (n : Fin 16) (o : Fin 256) (i j : Fin 25) :
    val_main_v251 (F := Ideal) x0 x1 x2 x3 x4 x5 x6 x7 (ix4 n o i j)
      = xcorr (fun i j => val_main_v127 (F := Ideal) x1 x5 x6 x7 (ix4 n o i j)) (fun d e => val_main_v63 (F := Ideal) x0 x2 x3 x4 (ix4 n o d e)) i j :=
  congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (r_xtap _ _ 0 0 _ _ n o i j) (r_xtap _ _ 0 1 _ _ n o i j)) (r_xtap _ _ 0 2 _ _ n o i j)) (r_xtap _ _ 0 3 _ _ n o i j)) (r_xtap _ _ 0 4 _ _ n o i j)) (r_xtap _ _ 1 0 _ _ n o i j)) (r_xtap _ _ 1 1 _ _ n o i j)) (r_xtap _ _ 1 2 _ _ n o i j)) (r_xtap _ _ 1 3 _ _ n o i j)) (r_xtap _ _ 1 4 _ _ n o i j)) (r_xtap _ _ 2 0 _ _ n o i j)) (r_xtap _ _ 2 1 _ _ n o i j)) (r_xtap _ _ 2 2 _ _ n o i j)) (r_xtap _ _ 2 3 _ _ n o i j)) (r_xtap _ _ 2 4 _ _ n o i j)) (r_xtap _ _ 3 0 _ _ n o i j)) (r_xtap _ _ 3 1 _ _ n o i j)) (r_xtap _ _ 3 2 _ _ n o i j)) (r_xtap _ _ 3 3 _ _ n o i j)) (r_xtap _ _ 3 4 _ _ n o i j)) (r_xtap _ _ 4 0 _ _ n o i j)) (r_xtap _ _ 4 1 _ _ n o i j)) (r_xtap _ _ 4 2 _ _ n o i j)) (r_xtap _ _ 4 3 _ _ n o i j)) (r_xtap _ _ 4 4 _ _ n o i j)

/-- The reference's template features are the specification's. -/
theorem r_kernA (n : Fin 16) (o : Fin 256) : (fun d e => val_main_v63 (F := Ideal) x0 x2 x3 x4 (ix4 n o d e)) = kernA x0 x2 x3 x4 n o := by
  funext d e
  exact r_kernF x0 x2 x3 x4 n o d e

/-- The reference's search features are the specification's. -/
theorem r_srchA (n : Fin 16) (o : Fin 256) : (fun d e => val_main_v127 (F := Ideal) x1 x5 x6 x7 (ix4 n o d e)) = srchA x1 x5 x6 x7 n o := by
  funext d e
  exact r_srchF x1 x5 x6 x7 n o d e

/-- The reference's mixing of the correlations over the channels. -/
theorem r_mix (n : Fin 16) (o : Fin 256) (i j : Fin 25) :
    val_main_v254 (F := Ideal) x0 x1 x2 x3 x4 x5 x6 x7 x8 (ix4 n o i j)
      = ∑ k : Fin 256, xcorr (srchA x1 x5 x6 x7 n k) (kernA x0 x2 x3 x4 n k) i j * x8 (ix4 o k 0 0) := by
  pointwise [val_main_v254, val_main_v253, val_main_v252]
  refine Finset.sum_congr rfl fun k _ => ?_
  rw [r_xcorr, r_kernA, r_srchA]
  exact mul_comm _ _

/-- The reference's hidden layer is the specification's. -/
theorem r_hidA (n : Fin 16) (o : Fin 256) (i j : Fin 25) :
    val_main_v265 (F := Ideal) x0 x1 x2 x3 x4 x5 x6 x7 x8 x9 x10 (ix4 n o i j) = hidA x0 x1 x2 x3 x4 x5 x6 x7 x8 x9 x10 n o i j := by
  pointwise [val_main_v265, val_main_v264, val_main_v261, val_main_v258, val_main_v257, val_main_v256, val_main_v255, val_main_cst_1, val_main_v260, val_main_v259, val_main_v263, val_main_v262, val_main_call2_v0, val_main_call2_cst]
  rw [r_mix]
  exact bn_act _ _ _

/-- The reference's output before the decode is the specification's. -/
theorem r_outA (n : Fin 16) (o : Fin 18) (i j : Fin 25) :
    val_main_v271 (F := Ideal) x0 x1 x2 x3 x4 x5 x6 x7 x8 x9 x10 x11 x12 (ix4 n o i j) = outA x0 x1 x2 x3 x4 x5 x6 x7 x8 x9 x10 x11 x12 n o i j := by
  pointwise [val_main_v271, val_main_v268, val_main_v267, val_main_v266, val_main_v270, val_main_v269]
  unfold outA outF
  refine Ideal.add_congr (Finset.sum_congr rfl fun k _ => ?_) rfl
  rw [r_hidA]
  exact mul_comm _ _

end Cert.Head

end
-- ==== Proof.Ref3.lean ====
module

public import proofs.«01_k».proof.Proof.Ref2
public import proofs.«01_k».proof.Proof.Dec

@[expose] public section

set_option maxRecDepth 16384

noncomputable section

namespace Cert.Head

open Idealize.ShloMosaic Idealize.ShloMosaic.TcCoe Cert.ReferenceIdeal Cert.ReferenceIdeal.Gen Cert.ReferenceIdeal.Read

theorem word_40340000 : Ideal.ofBits .f32 0x40340000#32 = (((45 / 16 : ℝ) : ℝ) : EReal) := by
  simp [Ideal.ofBits, Ideal.ieee, -EReal.coe_mul]
  try norm_num

theorem word_40680000 : Ideal.ofBits .f32 0x40680000#32 = (((29 / 8 : ℝ) : ℝ) : EReal) := by
  simp [Ideal.ofBits, Ideal.ieee, -EReal.coe_mul]
  try norm_num

theorem word_409C0000 : Ideal.ofBits .f32 0x409C0000#32 = (((39 / 8 : ℝ) : ℝ) : EReal) := by
  simp [Ideal.ofBits, Ideal.ieee, -EReal.coe_mul]
  try norm_num

theorem word_40C60000 : Ideal.ofBits .f32 0x40C60000#32 = (((99 / 16 : ℝ) : ℝ) : EReal) := by
  simp [Ideal.ofBits, Ideal.ieee, -EReal.coe_mul]
  try norm_num

theorem word_41230000 : Ideal.ofBits .f32 0x41230000#32 = (((163 / 16 : ℝ) : ℝ) : EReal) := by
  simp [Ideal.ofBits, Ideal.ieee, -EReal.coe_mul]
  try norm_num

theorem word_413A8000 : Ideal.ofBits .f32 0x413A8000#32 = (((373 / 32 : ℝ) : ℝ) : EReal) := by
  simp [Ideal.ofBits, Ideal.ieee, -EReal.coe_mul]
  try norm_num

theorem word_42000000 : Ideal.ofBits .f32 0x42000000#32 = (((32 / 1 : ℝ) : ℝ) : EReal) := by
  simp [Ideal.ofBits, Ideal.ieee, -EReal.coe_mul]
  try norm_num

theorem word_42B40000 : Ideal.ofBits .f32 0x42B40000#32 = (((90 / 1 : ℝ) : ℝ) : EReal) := by
  simp [Ideal.ofBits, Ideal.ieee, -EReal.coe_mul]
  try norm_num

theorem word_42E80000 : Ideal.ofBits .f32 0x42E80000#32 = (((116 / 1 : ℝ) : ℝ) : EReal) := by
  simp [Ideal.ofBits, Ideal.ieee, -EReal.coe_mul]
  try norm_num

theorem word_431C0000 : Ideal.ofBits .f32 0x431C0000#32 = (((156 / 1 : ℝ) : ℝ) : EReal) := by
  simp [Ideal.ofBits, Ideal.ieee, -EReal.coe_mul]
  try norm_num

theorem word_43460000 : Ideal.ofBits .f32 0x43460000#32 = (((198 / 1 : ℝ) : ℝ) : EReal) := by
  simp [Ideal.ofBits, Ideal.ieee, -EReal.coe_mul]
  try norm_num

theorem word_43A30000 : Ideal.ofBits .f32 0x43A30000#32 = (((326 / 1 : ℝ) : ℝ) : EReal) := by
  simp [Ideal.ofBits, Ideal.ieee, -EReal.coe_mul]
  try norm_num

theorem word_43BA8000 : Ideal.ofBits .f32 0x43BA8000#32 = (((373 / 1 : ℝ) : ℝ) : EReal) := by
  simp [Ideal.ofBits, Ideal.ieee, -EReal.coe_mul]
  try norm_num

/-- The reference's width factor, scaled with the stride, is the anchor's width. -/
theorem r_anchW (a : Fin 3) :
    (if h : a.val < 1 then Ideal.ofBits .f32 0x40680000#32 else if h : a.val - 1 < 1 then Ideal.ofBits .f32 0x409C0000#32 else Ideal.ofBits .f32 0x413A8000#32)
      * Ideal.ofBits .f32 0x42000000#32 = anchW a := by
  unfold anchW
  rw [word_40680000, word_409C0000, word_413A8000, word_42000000, word_42E80000, word_431C0000, word_43BA8000]
  obtain ⟨a, ha⟩ := a
  have h3 : a = 0 ∨ a = 1 ∨ a = 2 := by omega
  rcases h3 with rfl | rfl | rfl <;> norm_num <;> rw [← EReal.coe_mul] <;> norm_num

/-- The reference's height factor, scaled with the stride, is the anchor's height. -/
theorem r_anchH (a : Fin 3) :
    (if h : a.val < 1 then Ideal.ofBits .f32 0x40340000#32 else if h : a.val - 1 < 1 then Ideal.ofBits .f32 0x40C60000#32 else Ideal.ofBits .f32 0x41230000#32)
      * Ideal.ofBits .f32 0x42000000#32 = anchH a := by
  unfold anchH
  rw [word_40340000, word_40C60000, word_41230000, word_42000000, word_42B40000, word_43460000, word_43A30000]
  obtain ⟨a, ha⟩ := a
  have h3 : a = 0 ∨ a = 1 ∨ a = 2 := by omega
  rcases h3 with rfl | rfl | rfl <;> norm_num <;> rw [← EReal.coe_mul] <;> norm_num

variable (x0 : FVec Ideal S16x256x7x7 .f32) (x1 : FVec Ideal S16x256x31x31 .f32) (x2 : FVec Ideal S256x256x3x3 .f32) (x3 x4 : FVec Ideal S256 .f32)
  (x5 : FVec Ideal S256x256x3x3 .f32) (x6 x7 : FVec Ideal S256 .f32) (x8 : FVec Ideal S256x256x1x1 .f32) (x9 x10 : FVec Ideal S256 .f32)
  (x11 : FVec Ideal S18x256x1x1 .f32) (x12 : FVec Ideal S18 .f32)

/-- The reference's output rearranged: anchor, grid row, grid column, value. -/
theorem r_cell (n : Fin 16) (a : Fin 3) (i j : Fin 25) (q : Fin 6) (p : Fin 18) (hp : p.val = 6 * a.val + q.val) :
    val_main_v273 (F := Ideal) x0 x1 x2 x3 x4 x5 x6 x7 x8 x9 x10 x11 x12 (ix5 n a i j q) = outA x0 x1 x2 x3 x4 x5 x6 x7 x8 x9 x10 x11 x12 n p i j := by
  pointwise [val_main_v273, val_main_v272]
  rw [r_outA]
  exact congrArg (fun p => outA x0 x1 x2 x3 x4 x5 x6 x7 x8 x9 x10 x11 x12 n p i j) (Fin.ext (by show a.val * 6 + q.val = p.val; omega))

/-- The reference's centre along the columns. -/
theorem r_px (n : Fin 16) (a : Fin 3) (i j : Fin 25) (p : Fin 18) (hp : p.val = 6 * a.val + 0) :
    val_main_v307 (F := Ideal) x0 x1 x2 x3 x4 x5 x6 x7 x8 x9 x10 x11 x12 (ix4 n a i j) = decF a 0 i j (outA x0 x1 x2 x3 x4 x5 x6 x7 x8 x9 x10 x11 x12 n p i j) := by
  pointwise [val_main_v307, val_main_v305, val_main_v303, val_main_v302, val_main_v280, val_main_v279, val_main_v278, val_main_v277, val_main_v276, val_main_v275, val_main_v274, val_main_v304, val_main_v289, val_main_v288, val_main_v306, val_main_cst_12, val_main_cst_2, val_main_cst_3]
  rw [r_cell x0 x1 x2 x3 x4 x5 x6 x7 x8 x9 x10 x11 x12 n a i j 0 p hp, float_word _ (by omega)]
  rfl

/-- The reference's centre along the rows. -/
theorem r_py (n : Fin 16) (a : Fin 3) (i j : Fin 25) (p : Fin 18) (hp : p.val = 6 * a.val + 1) :
    val_main_v313 (F := Ideal) x0 x1 x2 x3 x4 x5 x6 x7 x8 x9 x10 x11 x12 (ix4 n a i j) = decF a 1 i j (outA x0 x1 x2 x3 x4 x5 x6 x7 x8 x9 x10 x11 x12 n p i j) := by
  pointwise [val_main_v313, val_main_v311, val_main_v309, val_main_v308, val_main_v280, val_main_v279, val_main_v278, val_main_v277, val_main_v276, val_main_v275, val_main_v274, val_main_v310, val_main_v291, val_main_v290, val_main_v312, val_main_cst_13, val_main_cst_2, val_main_cst_3]
  rw [r_cell x0 x1 x2 x3 x4 x5 x6 x7 x8 x9 x10 x11 x12 n a i j 1 p hp, float_word _ (by omega)]
  rfl

/-- The reference's width. -/
theorem r_pw (n : Fin 16) (a : Fin 3) (i j : Fin 25) (p : Fin 18) (hp : p.val = 6 * a.val + 2) :
    val_main_v320 (F := Ideal) x0 x1 x2 x3 x4 x5 x6 x7 x8 x9 x10 x11 x12 (ix4 n a i j) = decF a 2 i j (outA x0 x1 x2 x3 x4 x5 x6 x7 x8 x9 x10 x11 x12 n p i j) := by
  pointwise [val_main_v320, val_main_v318, val_main_v316, val_main_v315, val_main_v314, val_main_v317, val_main_v296, val_main_v295, val_main_v292, val_main_v293, val_main_v294, val_main_v319, val_main_cst_14, val_main_cst_6, val_main_cst_7, val_main_cst_8]
  rw [r_cell x0 x1 x2 x3 x4 x5 x6 x7 x8 x9 x10 x11 x12 n a i j 2 p hp, mul_assoc, r_anchW]
  rfl

/-- The reference's height. -/
theorem r_ph (n : Fin 16) (a : Fin 3) (i j : Fin 25) (p : Fin 18) (hp : p.val = 6 * a.val + 3) :
    val_main_v327 (F := Ideal) x0 x1 x2 x3 x4 x5 x6 x7 x8 x9 x10 x11 x12 (ix4 n a i j) = decF a 3 i j (outA x0 x1 x2 x3 x4 x5 x6 x7 x8 x9 x10 x11 x12 n p i j) := by
  pointwise [val_main_v327, val_main_v325, val_main_v323, val_main_v322, val_main_v321, val_main_v324, val_main_v301, val_main_v300, val_main_v297, val_main_v298, val_main_v299, val_main_v326, val_main_cst_15, val_main_cst_9, val_main_cst_10, val_main_cst_11]
  rw [r_cell x0 x1 x2 x3 x4 x5 x6 x7 x8 x9 x10 x11 x12 n a i j 3 p hp, mul_assoc, r_anchH]
  rfl

/-- The reference's objectness and class scores. -/
theorem r_score (n : Fin 16) (a : Fin 3) (i j : Fin 25) (s : Fin 2) (q : Fin 6) (hq : q.val = 4 + s.val) (p : Fin 18) (hp : p.val = 6 * a.val + q.val) :
    val_main_v287 (F := Ideal) x0 x1 x2 x3 x4 x5 x6 x7 x8 x9 x10 x11 x12 (ix5 n a i j s) = decF a q i j (outA x0 x1 x2 x3 x4 x5 x6 x7 x8 x9 x10 x11 x12 n p i j) := by
  pointwise [val_main_v287, val_main_v286, val_main_v285, val_main_v284, val_main_v283, val_main_v282, val_main_v281, val_main_cst_4, val_main_cst_5]
  rw [r_cell x0 x1 x2 x3 x4 x5 x6 x7 x8 x9 x10 x11 x12 n a i j _ p (hp.trans (congrArg (6 * a.val + ·) hq))]
  unfold decF
  rw [if_neg (by omega), if_neg (by omega), if_neg (by omega), if_neg (by omega)]
  rfl

/-- The reference's result is the predictions. -/
theorem r_ans : val_main_v334 (F := Ideal) x0 x1 x2 x3 x4 x5 x6 x7 x8 x9 x10 x11 x12 = ansA x0 x1 x2 x3 x4 x5 x6 x7 x8 x9 x10 x11 x12 := by
  funext y
  obtain ⟨n, r, q, rfl⟩ : ∃ (n : Fin 16) (r : Fin 1875) (q : Fin 6), y = ix3 n r q := ⟨y 0, y 1, y 2, eq_ix3 y⟩
  show _ = predF (outA x0 x1 x2 x3 x4 x5 x6 x7 x8 x9 x10 x11 x12 n) r q
  pointwise [val_main_v334, val_main_v333, val_main_v332, val_main_v328, val_main_v329, val_main_v330, val_main_v331]
  obtain ⟨q, hq⟩ := q
  have h6 : q = 0 ∨ q = 1 ∨ q = 2 ∨ q = 3 ∨ q = 4 ∨ q = 5 := by omega
  rcases h6 with rfl | rfl | rfl | rfl | rfl | rfl
  · exact r_px x0 x1 x2 x3 x4 x5 x6 x7 x8 x9 x10 x11 x12 n _ _ _ _ rfl
  · exact r_py x0 x1 x2 x3 x4 x5 x6 x7 x8 x9 x10 x11 x12 n _ _ _ _ rfl
  · exact r_pw x0 x1 x2 x3 x4 x5 x6 x7 x8 x9 x10 x11 x12 n _ _ _ _ rfl
  · exact r_ph x0 x1 x2 x3 x4 x5 x6 x7 x8 x9 x10 x11 x12 n _ _ _ _ rfl
  · exact r_score x0 x1 x2 x3 x4 x5 x6 x7 x8 x9 x10 x11 x12 n _ _ _ 0 ⟨4, hq⟩ rfl _ rfl
  · exact r_score x0 x1 x2 x3 x4 x5 x6 x7 x8 x9 x10 x11 x12 n _ _ _ 1 ⟨5, hq⟩ rfl _ rfl

end Cert.Head

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Bridge
public import proofs.«01_k».proof.Proof.Ref3
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

/-- The reference over the extended reals terminates, keeps its arguments and leaves every counter at zero. -/
theorem reference_frame : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run (F := Ideal) m g)

/-- The named constant is what the kernel's word stands for. -/
theorem preserves : Cert.preserves_Kernel_KernelIdeal :=
  IdealRules.named_const.statement Cert.KernelIdeal.κ "inv_bn" .f32 0x3F7FFFAC#32 _ rfl

/-- Kernel and reference compute the same predictions over the extended reals. -/
theorem algebraic : Cert.algebraic_KernelIdeal_ReferenceIdeal := by
  pair_intro
  · run_from Cert.KernelIdeal.Value.run_blocks m g
  · run_from Cert.ReferenceIdeal.Value.run m' g'
    obtain ⟨e0, e1, e2, e3, e4, e5, e6, e7, e8, e9, e10, e11, e12⟩ := hagree c
    refine (Cert.ReferenceIdeal.Read.val_main_v334_eq (StableHlo.launchContents m' c)).trans
      ((Cert.Head.r_ans _ _ _ _ _ _ _ _ _ _ _ _ _).trans (Eq.trans ?_ (Cert.Head.result m c).symm))
    show Cert.Head.ansA (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      = Cert.Head.ansA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
    rw [e0, e1, e2, e3, e4, e5, e6, e7, e8, e9, e10, e11, e12]

/-- Every claim of this certificate. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, preserves, algebraic⟩

end Cert.Proof

end
